-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v6) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_SiluIdeal (hSiluIdeal := hSiluIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
    ∧ algebraic_KernelIdeal_SiluIdeal (hKernelIdeal := hKernelIdeal) (hSiluIdeal := hSiluIdeal)
-- ==== Pre_small_KernelIdeal.lean ====
abbrev S2048x8192 : Shape := ⟨2, ![2048, 8192]⟩
abbrev S8192x4096 : Shape := ⟨2, ![8192, 4096]⟩
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  dot_S2048x8192_S8192x4096_S2048x4096_1_0_0_1_n_n_wf : DotDims.WF S2048x8192 S8192x4096 S2048x4096 [1] [0] [0] [1] [] []

variable [Facts]

def dot_S2048x8192_S8192x4096_S2048x4096_1_0_0_1_n_n : DotDims S2048x8192 S8192x4096 S2048x4096 where
  lhsContracting := [1]
  rhsContracting := [0]
  lhsNonContracting := [0]
  rhsNonContracting := [1]
  lhsBatch := []
  rhsBatch := []
  wf := dot_S2048x8192_S8192x4096_S2048x4096_1_0_0_1_n_n_wf
def fn {F : FTy → Type} [FloatOps F] (main_arg0 : FVec F S2048x8192 .f32) (main_arg1 : FVec F S8192x4096 .f32) : IVec S2048x4096 1 :=
  let main_v0 : FVec F S2048x4096 .f32 := (fun l r => Host.dotGeneral dot_S2048x8192_S8192x4096_S2048x4096_1_0_0_1_n_n none l r) main_arg0 main_arg1
  let main_cst : FVec F S_ .f32 := constant S_ .f32 0xC2700000#32
  let main_v1 : FVec F S2048x4096 .f32 := broadcastInDim S2048x4096 ![] bcast_S_S2048x4096 main_cst
  let main_v2 : IVec S2048x4096 1 := cmpf .oge main_v0 main_v1
  let main_cst_0 : FVec F S_ .f32 := constant S_ .f32 0x42700000#32
  let main_v3 : FVec F S2048x4096 .f32 := broadcastInDim S2048x4096 ![] bcast_S_S2048x4096 main_cst_0
  let main_v4 : IVec S2048x4096 1 := cmpf .ole main_v0 main_v3
  let main_v5 : IVec S2048x4096 1 := andi main_v2 main_v4
  main_v5
-- ==== Pre_small_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S2048x8192 : Shape := ⟨2, ![2048, 8192]⟩
abbrev S8192x4096 : Shape := ⟨2, ![8192, 4096]⟩
abbrev S8192x1024 : Shape := ⟨2, ![8192, 1024]⟩
abbrev S2x2048x512 : Shape := ⟨3, ![2, 2048, 512]⟩
abbrev S2x512x1024 : Shape := ⟨3, ![2, 512, 1024]⟩
abbrev S2048x1024 : Shape := ⟨2, ![2048, 1024]⟩
abbrev S2x2048x1024 : Shape := ⟨3, ![2, 2048, 1024]⟩
abbrev S2 : Shape := ⟨1, ![2]⟩
abbrev S3 : Shape := ⟨1, ![3]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x2048x512 : Shape := ⟨3, ![1, 2048, 512]⟩
abbrev S2048x512 : Shape := ⟨2, ![2048, 512]⟩
abbrev S1024x512 : Shape := ⟨2, ![1024, 512]⟩
abbrev S1024x1024 : Shape := ⟨2, ![1024, 1024]⟩
abbrev S1x1024x1024 : Shape := ⟨3, ![1, 1024, 1024]⟩
abbrev S1x2048x1024 : Shape := ⟨3, ![1, 2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S8192x4096, .f32⟩
  | .hbm, ⟨2, _⟩ => ⟨S8192x1024, .bf16⟩
  | .local _ .vmem, ⟨0, _⟩ => ⟨S2048x8192, .bf16⟩
  | .local _ .vmem, ⟨1, _⟩ => ⟨S2x2048x512, .f32⟩
  | .local _ .vmem, ⟨2, _⟩ => ⟨S2x512x1024, .f32⟩
  | .local _ .vmem, ⟨3, _⟩ => ⟨S2048x1024, .f32⟩
  | .local _ .vmem, ⟨4, _⟩ => ⟨S2x2048x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v76 : BitVec 32 := Scalar.muli v53 c1024_i32
  ![0, v76.toNat]
def k0_off2 (d0 : Dev nD) (c1_i32_28 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_54 : BitVec 32 := 1024#32
  let v82 : BitVec 32 := Scalar.muli v53 c1024_i32_54
  ![512, v82.toNat]
def k0_off3 (d0 : Dev nD) (c1_i32_28 : BitVec 32) : Fin 2 → Nat :=
  let c1024_i32_109 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_104 : BitVec 32 := 1024#32
  let v133 : BitVec 32 := Scalar.muli v53 c1024_i32_104
  ![1024, v133.toNat]
def k0_off4 (d0 : Dev nD) (c1_i32_28 : BitVec 32) : Fin 2 → Nat :=
  let c1536_i32_152 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_147 : BitVec 32 := 1024#32
  let v178 : BitVec 32 := Scalar.muli v53 c1024_i32_147
  ![1536, v178.toNat]
@[reducible] def k0_t1_loop : Scf.Loop 32 :=
  let c1_i32_153 : BitVec 32 := 1#32
  let c7_i32 : BitVec 32 := 7#32
  let v184 : BitVec 32 := Scalar.addi c1_i32_153 c7_i32
  let c1_i32_154 : BitVec 32 := 1#32
  ⟨c1_i32_153, v184, c1_i32_154⟩
def k0_off5 (k0_t1 : Fin k0_t1_loop.trips) (c0_i32_536 : BitVec 32) : Fin 2 → Nat :=
  let c0_i32_542 : BitVec 32 := 0#32
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let v601 : BitVec 32 := Scalar.addi v600 c0_i32_536
  let c512_i32_537 : BitVec 32 := 512#32
  let v602 : BitVec 32 := Scalar.muli v601 c512_i32_537
  ![0, v602.toNat]
def k0_off6 (k0_t1 : Fin k0_t1_loop.trips) (c0_i32_536 : BitVec 32) : Fin 2 → Nat :=
  let c0_547 : Index := 0#32
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let v601 : BitVec 32 := Scalar.addi v600 c0_i32_536
  let c512_i32_546 : BitVec 32 := 512#32
  let v611 : BitVec 32 := Scalar.muli v601 c512_i32_546
  let v612 : Index := Scalar.indexCast v611
  ![0, v612.toNat]
def k0_cond1 (k0_t1 : Fin k0_t1_loop.trips) : BitVec 1 :=
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let c0_i32_536 : BitVec 32 := 0#32
  let v601 : BitVec 32 := Scalar.addi v600 c0_i32_536
  let c2_i32_548 : BitVec 32 := 2#32
  let v616 : BitVec 32 := Scalar.addi v601 c2_i32_548
  let c16_i32 : BitVec 32 := 16#32
  let v617 : BitVec 1 := Scalar.cmpi .slt v616 c16_i32
  let v618 : BitVec 32 := Scalar.extui v617
  let c0_i32_549 : BitVec 32 := 0#32
  let v619 : BitVec 1 := Scalar.cmpi .ne v618 c0_i32_549
  v619

def k0_off7 (k0_t1 : Fin k0_t1_loop.trips) : Fin 2 → Nat :=
  let c0_i32_624 : BitVec 32 := 0#32
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let c0_i32_536 : BitVec 32 := 0#32
  let v601 : BitVec 32 := Scalar.addi v600 c0_i32_536
  let c2_i32_618 : BitVec 32 := 2#32
  let v704 : BitVec 32 := Scalar.addi v601 c2_i32_618
  let c512_i32_619 : BitVec 32 := 512#32
  let v705 : BitVec 32 := Scalar.muli v704 c512_i32_619
  ![0, v705.toNat]
def k0_off8 (d0 : Dev nD) (k0_t1 : Fin k0_t1_loop.trips) (c0_i32_536 : BitVec 32) : Fin 2 → Nat :=
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let v601 : BitVec 32 := Scalar.addi v600 c0_i32_536
  let c512_i32_550 : BitVec 32 := 512#32
  let v620 : BitVec 32 := Scalar.muli v601 c512_i32_550
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_551 : BitVec 32 := 1024#32
  let v621 : BitVec 32 := Scalar.muli v53 c1024_i32_551
  ![v620.toNat, v621.toNat]
def k0_off9 (k0_t1 : Fin k0_t1_loop.trips) (c0_i32_536 : BitVec 32) : Fin 2 → Nat :=
  let c0_560 : Index := 0#32
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let v601 : BitVec 32 := Scalar.addi v600 c0_i32_536
  let c512_i32_559 : BitVec 32 := 512#32
  let v630 : BitVec 32 := Scalar.muli v601 c512_i32_559
  let v631 : Index := Scalar.indexCast v630
  ![0, v631.toNat]
def k0_off10 (k0_t1 : Fin k0_t1_loop.trips) (c0_i32_536 : BitVec 32) : Fin 2 → Nat :=
  let c1024_567 : Index := 1024#32
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let v601 : BitVec 32 := Scalar.addi v600 c0_i32_536
  let c512_i32_566 : BitVec 32 := 512#32
  let v639 : BitVec 32 := Scalar.muli v601 c512_i32_566
  let v640 : Index := Scalar.indexCast v639
  ![1024, v640.toNat]
def k0_cond2 (k0_t1 : Fin k0_t1_loop.trips) : BitVec 1 :=
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let c0_i32_536 : BitVec 32 := 0#32
  let v601 : BitVec 32 := Scalar.addi v600 c0_i32_536
  let c2_i32_573 : BitVec 32 := 2#32
  let v648 : BitVec 32 := Scalar.addi v601 c2_i32_573
  let c16_i32_574 : BitVec 32 := 16#32
  let v649 : BitVec 1 := Scalar.cmpi .slt v648 c16_i32_574
  let v650 : BitVec 32 := Scalar.extui v649
  let c0_i32_575 : BitVec 32 := 0#32
  let v651 : BitVec 1 := Scalar.cmpi .ne v650 c0_i32_575
  v651

def k0_off11 (d0 : Dev nD) (k0_t1 : Fin k0_t1_loop.trips) : Fin 2 → Nat :=
  let c2_i32_535 : BitVec 32 := 2#32
  let c1_i32_153 : BitVec 32 := 1#32
  let c1_i32_154 : BitVec 32 := 1#32
  let arg13 : BitVec 32 := Scf.iv c1_i32_153 c1_i32_154 k0_t1
  let v600 : BitVec 32 := Scalar.muli c2_i32_535 arg13
  let c0_i32_536 : BitVec 32 := 0#32
  let v601 : BitVec 32 := Scalar.addi v600 c0_i32_536
  let c2_i32_618 : BitVec 32 := 2#32
  let v704 : BitVec 32 := Scalar.addi v601 c2_i32_618
  let c512_i32_619 : BitVec 32 := 512#32
  let v705 : BitVec 32 := Scalar.muli v704 c512_i32_619
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_620 : BitVec 32 := 1024#32
  let v706 : BitVec 32 := Scalar.muli v53 c1024_i32_620
  ![v705.toNat, v706.toNat]
def k0_cond3 (k0_t1 : Fin k0_t1_loop.trips) : BitVec 1 :=
  let c2_i32_576 : BitVec 32 := 2#32
  let c1_i32_153 : BitVec 32 := 1#32
  let c1_i32_154 : BitVec 32 := 1#32
  let arg13 : BitVec 32 := Scf.iv c1_i32_153 c1_i32_154 k0_t1
  let v652 : BitVec 32 := Scalar.muli c2_i32_576 arg13
  let c1_i32_577 : BitVec 32 := 1#32
  let v653 : BitVec 32 := Scalar.addi v652 c1_i32_577
  let c2_i32_589 : BitVec 32 := 2#32
  let v668 : BitVec 32 := Scalar.addi v653 c2_i32_589
  let c16_i32_590 : BitVec 32 := 16#32
  let v669 : BitVec 1 := Scalar.cmpi .slt v668 c16_i32_590
  let v670 : BitVec 32 := Scalar.extui v669
  let c0_i32_591 : BitVec 32 := 0#32
  let v671 : BitVec 1 := Scalar.cmpi .ne v670 c0_i32_591
  v671

def k0_off12 (k0_t1 : Fin k0_t1_loop.trips) : Fin 2 → Nat :=
  let c0_i32_624 : BitVec 32 := 0#32
  let c2_i32_576 : BitVec 32 := 2#32
  let c1_i32_153 : BitVec 32 := 1#32
  let c1_i32_154 : BitVec 32 := 1#32
  let arg13 : BitVec 32 := Scf.iv c1_i32_153 c1_i32_154 k0_t1
  let v652 : BitVec 32 := Scalar.muli c2_i32_576 arg13
  let c1_i32_577 : BitVec 32 := 1#32
  let v653 : BitVec 32 := Scalar.addi v652 c1_i32_577
  let c2_i32_618 : BitVec 32 := 2#32
  let v704 : BitVec 32 := Scalar.addi v653 c2_i32_618
  let c512_i32_619 : BitVec 32 := 512#32
  let v705 : BitVec 32 := Scalar.muli v704 c512_i32_619
  ![0, v705.toNat]
def k0_cond4 (k0_t1 : Fin k0_t1_loop.trips) : BitVec 1 :=
  let c2_i32_576 : BitVec 32 := 2#32
  let c1_i32_153 : BitVec 32 := 1#32
  let c1_i32_154 : BitVec 32 := 1#32
  let arg13 : BitVec 32 := Scf.iv c1_i32_153 c1_i32_154 k0_t1
  let v652 : BitVec 32 := Scalar.muli c2_i32_576 arg13
  let c1_i32_577 : BitVec 32 := 1#32
  let v653 : BitVec 32 := Scalar.addi v652 c1_i32_577
  let c2_i32_615 : BitVec 32 := 2#32
  let v700 : BitVec 32 := Scalar.addi v653 c2_i32_615
  let c16_i32_616 : BitVec 32 := 16#32
  let v701 : BitVec 1 := Scalar.cmpi .slt v700 c16_i32_616
  let v702 : BitVec 32 := Scalar.extui v701
  let c0_i32_617 : BitVec 32 := 0#32
  let v703 : BitVec 1 := Scalar.cmpi .ne v702 c0_i32_617
  v703

def k0_off13 (d0 : Dev nD) (k0_t1 : Fin k0_t1_loop.trips) : Fin 2 → Nat :=
  let c2_i32_576 : BitVec 32 := 2#32
  let c1_i32_153 : BitVec 32 := 1#32
  let c1_i32_154 : BitVec 32 := 1#32
  let arg13 : BitVec 32 := Scf.iv c1_i32_153 c1_i32_154 k0_t1
  let v652 : BitVec 32 := Scalar.muli c2_i32_576 arg13
  let c1_i32_577 : BitVec 32 := 1#32
  let v653 : BitVec 32 := Scalar.addi v652 c1_i32_577
  let c2_i32_618 : BitVec 32 := 2#32
  let v704 : BitVec 32 := Scalar.addi v653 c2_i32_618
  let c512_i32_619 : BitVec 32 := 512#32
  let v705 : BitVec 32 := Scalar.muli v704 c512_i32_619
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_620 : BitVec 32 := 1024#32
  let v706 : BitVec 32 := Scalar.muli v53 c1024_i32_620
  ![v705.toNat, v706.toNat]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v223 : BitVec 32 := Scalar.muli v2 c2048_i32
  let c0_i32_189 : BitVec 32 := 0#32
  ![v223.toNat, 0]
def k0_dev4 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_187 : BitVec 32 := 1#32
  let v224 : BitVec 32 := Scalar.muli v53 c1_i32_187
  let v225 : BitVec 32 := Scalar.addi c0_i32_188 v224
  v225.toNat
@[reducible] def k0_t2_loop : Scf.Loop 32 :=
  let c1_i32_246 : BitVec 32 := 1#32
  let c7_i32_247 : BitVec 32 := 7#32
  let v287 : BitVec 32 := Scalar.addi c1_i32_246 c7_i32_247
  let c1_i32_248 : BitVec 32 := 1#32
  ⟨c1_i32_246, v287, c1_i32_248⟩
def k0_off15 (d0 : Dev nD) (k0_t2 : Fin k0_t2_loop.trips) (c0_i32_536 : BitVec 32) : Fin 2 → Nat :=
  let c2_i32_535 : BitVec 32 := 2#32
  let c1_i32_246 : BitVec 32 := 1#32
  let c1_i32_248 : BitVec 32 := 1#32
  let arg13 : BitVec 32 := Scf.iv c1_i32_246 c1_i32_248 k0_t2
  let v600 : BitVec 32 := Scalar.muli c2_i32_535 arg13
  let v601 : BitVec 32 := Scalar.addi v600 c0_i32_536
  let c512_i32_537 : BitVec 32 := 512#32
  let v602 : BitVec 32 := Scalar.muli v601 c512_i32_537
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v54 : BitVec 32 := Scalar.addi v2 c2_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1024_i32_538 : BitVec 32 := 1024#32
  let v603 : BitVec 32 := Scalar.muli v64 c1024_i32_538
  ![v602.toNat, v603.toNat]
def k0_off16 (k0_t2 : Fin k0_t2_loop.trips) (c0_i32_536 : BitVec 32) : Fin 2 → Nat :=
  let c0_547 : Index := 0#32
  let c2_i32_535 : BitVec 32 := 2#32
  let c1_i32_246 : BitVec 32 := 1#32
  let c1_i32_248 : BitVec 32 := 1#32
  let arg13 : BitVec 32 := Scf.iv c1_i32_246 c1_i32_248 k0_t2
  let v600 : BitVec 32 := Scalar.muli c2_i32_535 arg13
  let v601 : BitVec 32 := Scalar.addi v600 c0_i32_536
  let c512_i32_546 : BitVec 32 := 512#32
  let v612 : BitVec 32 := Scalar.muli v601 c512_i32_546
  let v613 : Index := Scalar.indexCast v612
  ![0, v613.toNat]
def k0_off17 (k0_t2 : Fin k0_t2_loop.trips) (c0_i32_536 : BitVec 32) : Fin 2 → Nat :=
  let c1024_554 : Index := 1024#32
  let c2_i32_535 : BitVec 32 := 2#32
  let c1_i32_246 : BitVec 32 := 1#32
  let c1_i32_248 : BitVec 32 := 1#32
  let arg13 : BitVec 32 := Scf.iv c1_i32_246 c1_i32_248 k0_t2
  let v600 : BitVec 32 := Scalar.muli c2_i32_535 arg13
  let v601 : BitVec 32 := Scalar.addi v600 c0_i32_536
  let c512_i32_553 : BitVec 32 := 512#32
  let v621 : BitVec 32 := Scalar.muli v601 c512_i32_553
  let v622 : Index := Scalar.indexCast v621
  ![1024, v622.toNat]
def k0_cond5 (k0_t2 : Fin k0_t2_loop.trips) : BitVec 1 :=
  let c2_i32_535 : BitVec 32 := 2#32
  let c1_i32_246 : BitVec 32 := 1#32
  let c1_i32_248 : BitVec 32 := 1#32
  let arg13 : BitVec 32 := Scf.iv c1_i32_246 c1_i32_248 k0_t2
  let v600 : BitVec 32 := Scalar.muli c2_i32_535 arg13
  let c0_i32_536 : BitVec 32 := 0#32
  let v601 : BitVec 32 := Scalar.addi v600 c0_i32_536
  let c2_i32_560 : BitVec 32 := 2#32
  let v630 : BitVec 32 := Scalar.addi v601 c2_i32_560
  let c16_i32 : BitVec 32 := 16#32
  let v631 : BitVec 1 := Scalar.cmpi .slt v630 c16_i32
  let v632 : BitVec 32 := Scalar.extui v631
  let c0_i32_561 : BitVec 32 := 0#32
  let v633 : BitVec 1 := Scalar.cmpi .ne v632 c0_i32_561
  v633

def k0_off18 (d0 : Dev nD) (k0_t2 : Fin k0_t2_loop.trips) : Fin 2 → Nat :=
  let c2_i32_535 : BitVec 32 := 2#32
  let c1_i32_246 : BitVec 32 := 1#32
  let c1_i32_248 : BitVec 32 := 1#32
  let arg13 : BitVec 32 := Scf.iv c1_i32_246 c1_i32_248 k0_t2
  let v600 : BitVec 32 := Scalar.muli c2_i32_535 arg13
  let c0_i32_536 : BitVec 32 := 0#32
  let v601 : BitVec 32 := Scalar.addi v600 c0_i32_536
  let c2_i32_590 : BitVec 32 := 2#32
  let v668 : BitVec 32 := Scalar.addi v601 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v54 : BitVec 32 := Scalar.addi v2 c2_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1024_i32_592 : BitVec 32 := 1024#32
  let v670 : BitVec 32 := Scalar.muli v64 c1024_i32_592
  ![v669.toNat, v670.toNat]
def k0_cond6 (k0_t2 : Fin k0_t2_loop.trips) : BitVec 1 :=
  let c2_i32_562 : BitVec 32 := 2#32
  let c1_i32_246 : BitVec 32 := 1#32
  let c1_i32_248 : BitVec 32 := 1#32
  let arg13 : BitVec 32 := Scf.iv c1_i32_246 c1_i32_248 k0_t2
  let v634 : BitVec 32 := Scalar.muli c2_i32_562 arg13
  let c1_i32_563 : BitVec 32 := 1#32
  let v635 : BitVec 32 := Scalar.addi v634 c1_i32_563
  let c2_i32_587 : BitVec 32 := 2#32
  let v664 : BitVec 32 := Scalar.addi v635 c2_i32_587
  let c16_i32_588 : BitVec 32 := 16#32
  let v665 : BitVec 1 := Scalar.cmpi .slt v664 c16_i32_588
  let v666 : BitVec 32 := Scalar.extui v665
  let c0_i32_589 : BitVec 32 := 0#32
  let v667 : BitVec 1 := Scalar.cmpi .ne v666 c0_i32_589
  v667

def k0_off19 (d0 : Dev nD) (k0_t2 : Fin k0_t2_loop.trips) : Fin 2 → Nat :=
  let c2_i32_562 : BitVec 32 := 2#32
  let c1_i32_246 : BitVec 32 := 1#32
  let c1_i32_248 : BitVec 32 := 1#32
  let arg13 : BitVec 32 := Scf.iv c1_i32_246 c1_i32_248 k0_t2
  let v634 : BitVec 32 := Scalar.muli c2_i32_562 arg13
  let c1_i32_563 : BitVec 32 := 1#32
  let v635 : BitVec 32 := Scalar.addi v634 c1_i32_563
  let c2_i32_590 : BitVec 32 := 2#32
  let v668 : BitVec 32 := Scalar.addi v635 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v54 : BitVec 32 := Scalar.addi v2 c2_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1024_i32_592 : BitVec 32 := 1024#32
  let v670 : BitVec 32 := Scalar.muli v64 c1024_i32_592
  ![v669.toNat, v670.toNat]
def k0_dev5 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v54 : BitVec 32 := Scalar.addi v2 c2_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1_i32_282 : BitVec 32 := 1#32
  let v327 : BitVec 32 := Scalar.muli v64 c1_i32_282
  let v328 : BitVec 32 := Scalar.addi c0_i32_283 v327
  v328.toNat
@[reducible] def k0_t3_loop : Scf.Loop 32 :=
  let c1_i32_341 : BitVec 32 := 1#32
  let c7_i32_342 : BitVec 32 := 7#32
  let v390 : BitVec 32 := Scalar.addi c1_i32_341 c7_i32_342
  let c1_i32_343 : BitVec 32 := 1#32
  ⟨c1_i32_341, v390, c1_i32_343⟩
def k0_off20 (d0 : Dev nD) (k0_t3 : Fin k0_t3_loop.trips) (c0_i32_536 : BitVec 32) : Fin 2 → Nat :=
  let c2_i32_535 : BitVec 32 := 2#32
  let c1_i32_341 : BitVec 32 := 1#32
  let c1_i32_343 : BitVec 32 := 1#32
  let arg13 : BitVec 32 := Scf.iv c1_i32_341 c1_i32_343 k0_t3
  let v600 : BitVec 32 := Scalar.muli c2_i32_535 arg13
  let v601 : BitVec 32 := Scalar.addi v600 c0_i32_536
  let c512_i32_537 : BitVec 32 := 512#32
  let v602 : BitVec 32 := Scalar.muli v601 c512_i32_537
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v65 : BitVec 32 := Scalar.addi v2 c3_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1024_i32_538 : BitVec 32 := 1024#32
  let v603 : BitVec 32 := Scalar.muli v75 c1024_i32_538
  ![v602.toNat, v603.toNat]
def k0_off21 (k0_t3 : Fin k0_t3_loop.trips) (c0_i32_536 : BitVec 32) : Fin 2 → Nat :=
  let c0_547 : Index := 0#32
  let c2_i32_535 : BitVec 32 := 2#32
  let c1_i32_341 : BitVec 32 := 1#32
  let c1_i32_343 : BitVec 32 := 1#32
  let arg13 : BitVec 32 := Scf.iv c1_i32_341 c1_i32_343 k0_t3
  let v600 : BitVec 32 := Scalar.muli c2_i32_535 arg13
  let v601 : BitVec 32 := Scalar.addi v600 c0_i32_536
  let c512_i32_546 : BitVec 32 := 512#32
  let v612 : BitVec 32 := Scalar.muli v601 c512_i32_546
  let v613 : Index := Scalar.indexCast v612
  ![0, v613.toNat]
def k0_off22 (k0_t3 : Fin k0_t3_loop.trips) (c0_i32_536 : BitVec 32) : Fin 2 → Nat :=
  let c1024_554 : Index := 1024#32
  let c2_i32_535 : BitVec 32 := 2#32
  let c1_i32_341 : BitVec 32 := 1#32
  let c1_i32_343 : BitVec 32 := 1#32
  let arg13 : BitVec 32 := Scf.iv c1_i32_341 c1_i32_343 k0_t3
  let v600 : BitVec 32 := Scalar.muli c2_i32_535 arg13
  let v601 : BitVec 32 := Scalar.addi v600 c0_i32_536
  let c512_i32_553 : BitVec 32 := 512#32
  let v621 : BitVec 32 := Scalar.muli v601 c512_i32_553
  let v622 : Index := Scalar.indexCast v621
  ![1024, v622.toNat]
def k0_cond7 (k0_t3 : Fin k0_t3_loop.trips) : BitVec 1 :=
  let c2_i32_535 : BitVec 32 := 2#32
  let c1_i32_341 : BitVec 32 := 1#32
  let c1_i32_343 : BitVec 32 := 1#32
  let arg13 : BitVec 32 := Scf.iv c1_i32_341 c1_i32_343 k0_t3
  let v600 : BitVec 32 := Scalar.muli c2_i32_535 arg13
  let c0_i32_536 : BitVec 32 := 0#32
  let v601 : BitVec 32 := Scalar.addi v600 c0_i32_536
  let c2_i32_560 : BitVec 32 := 2#32
  let v630 : BitVec 32 := Scalar.addi v601 c2_i32_560
  let c16_i32 : BitVec 32 := 16#32
  let v631 : BitVec 1 := Scalar.cmpi .slt v630 c16_i32
  let v632 : BitVec 32 := Scalar.extui v631
  let c0_i32_561 : BitVec 32 := 0#32
  let v633 : BitVec 1 := Scalar.cmpi .ne v632 c0_i32_561
  v633

def k0_off23 (d0 : Dev nD) (k0_t3 : Fin k0_t3_loop.trips) : Fin 2 → Nat :=
  let c2_i32_535 : BitVec 32 := 2#32
  let c1_i32_341 : BitVec 32 := 1#32
  let c1_i32_343 : BitVec 32 := 1#32
  let arg13 : BitVec 32 := Scf.iv c1_i32_341 c1_i32_343 k0_t3
  let v600 : BitVec 32 := Scalar.muli c2_i32_535 arg13
  let c0_i32_536 : BitVec 32 := 0#32
  let v601 : BitVec 32 := Scalar.addi v600 c0_i32_536
  let c2_i32_590 : BitVec 32 := 2#32
  let v668 : BitVec 32 := Scalar.addi v601 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v65 : BitVec 32 := Scalar.addi v2 c3_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1024_i32_592 : BitVec 32 := 1024#32
  let v670 : BitVec 32 := Scalar.muli v75 c1024_i32_592
  ![v669.toNat, v670.toNat]
def k0_cond8 (k0_t3 : Fin k0_t3_loop.trips) : BitVec 1 :=
  let c2_i32_562 : BitVec 32 := 2#32
  let c1_i32_341 : BitVec 32 := 1#32
  let c1_i32_343 : BitVec 32 := 1#32
  let arg13 : BitVec 32 := Scf.iv c1_i32_341 c1_i32_343 k0_t3
  let v634 : BitVec 32 := Scalar.muli c2_i32_562 arg13
  let c1_i32_563 : BitVec 32 := 1#32
  let v635 : BitVec 32 := Scalar.addi v634 c1_i32_563
  let c2_i32_587 : BitVec 32 := 2#32
  let v664 : BitVec 32 := Scalar.addi v635 c2_i32_587
  let c16_i32_588 : BitVec 32 := 16#32
  let v665 : BitVec 1 := Scalar.cmpi .slt v664 c16_i32_588
  let v666 : BitVec 32 := Scalar.extui v665
  let c0_i32_589 : BitVec 32 := 0#32
  let v667 : BitVec 1 := Scalar.cmpi .ne v666 c0_i32_589
  v667

def k0_off24 (d0 : Dev nD) (k0_t3 : Fin k0_t3_loop.trips) : Fin 2 → Nat :=
  let c2_i32_562 : BitVec 32 := 2#32
  let c1_i32_341 : BitVec 32 := 1#32
  let c1_i32_343 : BitVec 32 := 1#32
  let arg13 : BitVec 32 := Scf.iv c1_i32_341 c1_i32_343 k0_t3
  let v634 : BitVec 32 := Scalar.muli c2_i32_562 arg13
  let c1_i32_563 : BitVec 32 := 1#32
  let v635 : BitVec 32 := Scalar.addi v634 c1_i32_563
  let c2_i32_590 : BitVec 32 := 2#32
  let v668 : BitVec 32 := Scalar.addi v635 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v65 : BitVec 32 := Scalar.addi v2 c3_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1024_i32_592 : BitVec 32 := 1024#32
  let v670 : BitVec 32 := Scalar.muli v75 c1024_i32_592
  ![v669.toNat, v670.toNat]
def k0_off25 (d0 : Dev nD) : Fin 2 → Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_345 : BitVec 32 := 1024#32
  let v391 : BitVec 32 := Scalar.muli v2 c1024_i32_345
  ![0, v391.toNat]
def k0_off26 (d0 : Dev nD) : Fin 2 → Nat :=
  let c512_i32_356 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_351 : BitVec 32 := 1024#32
  let v397 : BitVec 32 := Scalar.muli v2 c1024_i32_351
  ![512, v397.toNat]
def k0_dev6 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v65 : BitVec 32 := Scalar.addi v2 c3_i32_42
  let c4_i32_43 : BitVec 32 := 4#32
  let c0_i32_44 : BitVec 32 := 0#32
  let v66 : BitVec 1 := Scalar.cmpi .eq c4_i32_43 c0_i32_44
  let c1_i32_45 : BitVec 32 := 1#32
  let v67 : BitVec 32 := Scalar.select v66 c1_i32_45 c4_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c1_i32_384 : BitVec 32 := 1#32
  let v435 : BitVec 32 := Scalar.muli v75 c1_i32_384
  let v436 : BitVec 32 := Scalar.addi c0_i32_385 v435
  v436.toNat
def k0_off27 (d0 : Dev nD) : Fin 2 → Nat :=
  let c1024_i32_413 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_408 : BitVec 32 := 1024#32
  let v463 : BitVec 32 := Scalar.muli v2 c1024_i32_408
  ![1024, v463.toNat]
def k0_off28 (d0 : Dev nD) : Fin 2 → Nat :=
  let c1536_i32_442 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_437 : BitVec 32 := 1024#32
  let v492 : BitVec 32 := Scalar.muli v2 c1024_i32_437
  ![1536, v492.toNat]
@[reducible] def k0_t4_loop : Scf.Loop 32 :=
  let c1_i32_443 : BitVec 32 := 1#32
  let c7_i32_444 : BitVec 32 := 7#32
  let v498 : BitVec 32 := Scalar.addi c1_i32_443 c7_i32_444
  let c1_i32_445 : BitVec 32 := 1#32
  ⟨c1_i32_443, v498, c1_i32_445⟩
def k0_off29 (d0 : Dev nD) (k0_t4 : Fin k0_t4_loop.trips) (c0_i32_536 : BitVec 32) : Fin 2 → Nat :=
  let c2_i32_535 : BitVec 32 := 2#32
  let c1_i32_443 : BitVec 32 := 1#32
  let c1_i32_445 : BitVec 32 := 1#32
  let arg13 : BitVec 32 := Scf.iv c1_i32_443 c1_i32_445 k0_t4
  let v600 : BitVec 32 := Scalar.muli c2_i32_535 arg13
  let v601 : BitVec 32 := Scalar.addi v600 c0_i32_536
  let c512_i32_537 : BitVec 32 := 512#32
  let v602 : BitVec 32 := Scalar.muli v601 c512_i32_537
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_538 : BitVec 32 := 1024#32
  let v603 : BitVec 32 := Scalar.muli v2 c1024_i32_538
  ![v602.toNat, v603.toNat]
def k0_off30 (k0_t4 : Fin k0_t4_loop.trips) (c0_i32_536 : BitVec 32) : Fin 2 → Nat :=
  let c0_547 : Index := 0#32
  let c2_i32_535 : BitVec 32 := 2#32
  let c1_i32_443 : BitVec 32 := 1#32
  let c1_i32_445 : BitVec 32 := 1#32
  let arg13 : BitVec 32 := Scf.iv c1_i32_443 c1_i32_445 k0_t4
  let v600 : BitVec 32 := Scalar.muli c2_i32_535 arg13
  let v601 : BitVec 32 := Scalar.addi v600 c0_i32_536
  let c512_i32_546 : BitVec 32 := 512#32
  let v612 : BitVec 32 := Scalar.muli v601 c512_i32_546
  let v613 : Index := Scalar.indexCast v612
  ![0, v613.toNat]
def k0_off31 (k0_t4 : Fin k0_t4_loop.trips) (c0_i32_536 : BitVec 32) : Fin 2 → Nat :=
  let c1024_554 : Index := 1024#32
  let c2_i32_535 : BitVec 32 := 2#32
  let c1_i32_443 : BitVec 32 := 1#32
  let c1_i32_445 : BitVec 32 := 1#32
  let arg13 : BitVec 32 := Scf.iv c1_i32_443 c1_i32_445 k0_t4
  let v600 : BitVec 32 := Scalar.muli c2_i32_535 arg13
  let v601 : BitVec 32 := Scalar.addi v600 c0_i32_536
  let c512_i32_553 : BitVec 32 := 512#32
  let v621 : BitVec 32 := Scalar.muli v601 c512_i32_553
  let v622 : Index := Scalar.indexCast v621
  ![1024, v622.toNat]
def k0_cond9 (k0_t4 : Fin k0_t4_loop.trips) : BitVec 1 :=
  let c2_i32_535 : BitVec 32 := 2#32
  let c1_i32_443 : BitVec 32 := 1#32
  let c1_i32_445 : BitVec 32 := 1#32
  let arg13 : BitVec 32 := Scf.iv c1_i32_443 c1_i32_445 k0_t4
  let v600 : BitVec 32 := Scalar.muli c2_i32_535 arg13
  let c0_i32_536 : BitVec 32 := 0#32
  let v601 : BitVec 32 := Scalar.addi v600 c0_i32_536
  let c2_i32_560 : BitVec 32 := 2#32
  let v630 : BitVec 32 := Scalar.addi v601 c2_i32_560
  let c16_i32 : BitVec 32 := 16#32
  let v631 : BitVec 1 := Scalar.cmpi .slt v630 c16_i32
  let v632 : BitVec 32 := Scalar.extui v631
  let c0_i32_561 : BitVec 32 := 0#32
  let v633 : BitVec 1 := Scalar.cmpi .ne v632 c0_i32_561
  v633

def k0_off32 (d0 : Dev nD) (k0_t4 : Fin k0_t4_loop.trips) : Fin 2 → Nat :=
  let c2_i32_535 : BitVec 32 := 2#32
  let c1_i32_443 : BitVec 32 := 1#32
  let c1_i32_445 : BitVec 32 := 1#32
  let arg13 : BitVec 32 := Scf.iv c1_i32_443 c1_i32_445 k0_t4
  let v600 : BitVec 32 := Scalar.muli c2_i32_535 arg13
  let c0_i32_536 : BitVec 32 := 0#32
  let v601 : BitVec 32 := Scalar.addi v600 c0_i32_536
  let c2_i32_590 : BitVec 32 := 2#32
  let v668 : BitVec 32 := Scalar.addi v601 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_592 : BitVec 32 := 1024#32
  let v670 : BitVec 32 := Scalar.muli v2 c1024_i32_592
  ![v669.toNat, v670.toNat]
def k0_cond10 (k0_t4 : Fin k0_t4_loop.trips) : BitVec 1 :=
  let c2_i32_562 : BitVec 32 := 2#32
  let c1_i32_443 : BitVec 32 := 1#32
  let c1_i32_445 : BitVec 32 := 1#32
  let arg13 : BitVec 32 := Scf.iv c1_i32_443 c1_i32_445 k0_t4
  let v634 : BitVec 32 := Scalar.muli c2_i32_562 arg13
  let c1_i32_563 : BitVec 32 := 1#32
  let v635 : BitVec 32 := Scalar.addi v634 c1_i32_563
  let c2_i32_587 : BitVec 32 := 2#32
  let v664 : BitVec 32 := Scalar.addi v635 c2_i32_587
  let c16_i32_588 : BitVec 32 := 16#32
  let v665 : BitVec 1 := Scalar.cmpi .slt v664 c16_i32_588
  let v666 : BitVec 32 := Scalar.extui v665
  let c0_i32_589 : BitVec 32 := 0#32
  let v667 : BitVec 1 := Scalar.cmpi .ne v666 c0_i32_589
  v667

def k0_off33 (d0 : Dev nD) (k0_t4 : Fin k0_t4_loop.trips) : Fin 2 → Nat :=
  let c2_i32_562 : BitVec 32 := 2#32
  let c1_i32_443 : BitVec 32 := 1#32
  let c1_i32_445 : BitVec 32 := 1#32
  let arg13 : BitVec 32 := Scf.iv c1_i32_443 c1_i32_445 k0_t4
  let v634 : BitVec 32 := Scalar.muli c2_i32_562 arg13
  let c1_i32_563 : BitVec 32 := 1#32
  let v635 : BitVec 32 := Scalar.addi v634 c1_i32_563
  let c2_i32_590 : BitVec 32 := 2#32
  let v668 : BitVec 32 := Scalar.addi v635 c2_i32_590
  let c512_i32_591 : BitVec 32 := 512#32
  let v669 : BitVec 32 := Scalar.muli v668 c512_i32_591
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_592 : BitVec 32 := 1024#32
  let v670 : BitVec 32 := Scalar.muli v2 c1024_i32_592
  ![v669.toNat, v670.toNat]
def k0_off34 (d0 : Dev nD) (c1_i32_487 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v543 : BitVec 32 := Scalar.subi v2 c1_i32_487
  let c4_i32_488 : BitVec 32 := 4#32
  let c0_i32_489 : BitVec 32 := 0#32
  let v544 : BitVec 1 := Scalar.cmpi .eq c4_i32_488 c0_i32_489
  let c1_i32_490 : BitVec 32 := 1#32
  let v545 : BitVec 32 := Scalar.select v544 c1_i32_490 c4_i32_488
  let v546 : BitVec 32 := Scalar.remsi v543 v545
  let c0_i32_492 : BitVec 32 := 0#32
  let v548 : BitVec 1 := Scalar.cmpi .slt v546 c0_i32_492
  let c0_i32_493 : BitVec 32 := 0#32
  let v549 : BitVec 1 := Scalar.cmpi .slt v545 c0_i32_493
  let v550 : BitVec 1 := Scalar.xori v548 v549
  let c0_i32_491 : BitVec 32 := 0#32
  let v547 : BitVec 1 := Scalar.cmpi .ne v546 c0_i32_491
  let v551 : BitVec 1 := Scalar.andi v550 v547
  let v552 : BitVec 32 := Scalar.addi v546 v545
  let v553 : BitVec 32 := Scalar.select v551 v552 v546
  let c2048_i32_494 : BitVec 32 := 2048#32
  let v554 : BitVec 32 := Scalar.muli v553 c2048_i32_494
  let c0_i32_500 : BitVec 32 := 0#32
  ![v554.toNat, 0]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== SiluIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Steps.lean ====
/- The kernel's steps as small programs of their own — start a block's copy, wait for it, multiply a
   block into the accumulator, convert a block of `x`, apply the activation — and the kernel's loop
   regions as sequences of those. -/
module

public import proofs.«01_k».proof.Proof.Gen.KernelIdeal
public import proofs.«01_k».proof.Proof.Gen.KernelIdeal.Skeleton

@[expose] public section

noncomputable section

namespace Cert.KernelProof

open Cert.KernelIdeal Cert.KernelIdeal.Gen
open Idealize.ShloMosaic Idealize.SL.Sem

variable {F : FTy → Type} [FloatOps F]

/-! ## The buffers -/

abbrev xH : Memref sig .tc .hbm S2048x8192 .f32 := Memref.whole main_arg0
abbrev wH : Memref sig .tc .hbm S8192x4096 .f32 := Memref.whole main_arg1
abbrev oH : Memref sig .tc .hbm S8192x1024 .bf16 := Memref.whole main_v1
abbrev xV : Memref sig .tc .vmem S2048x8192 .bf16 := Memref.whole cc0_scratch0
abbrev xB : Memref sig .tc .vmem S2x2048x512 .f32 := Memref.whole cc0_scratch1
abbrev wB : Memref sig .tc .vmem S2x512x1024 .f32 := Memref.whole cc0_scratch2
abbrev aV : Memref sig .tc .vmem S2048x1024 .f32 := Memref.whole cc0_scratch3
abbrev sB : Memref sig .tc .vmem S2x2048x1024 .bf16 := Memref.whole cc0_scratch4

abbrev InB {n : Nat} (off : Fin n → Nat) (sz bound : Fin n → Nat) : Prop := ∀ a, off a + sz a ≤ bound a

/-- The slots and halves lie within their buffers. -/
theorem inbSem (b : Fin 2) : InB ![b.val] S1.size S2.size := by revert b; decide
theorem inbSem3 (b : Fin 3) : InB ![b.val] S1.size S3.size := by revert b; decide
theorem inbX (b : Fin 2) : InB ![b.val, 0, 0] S1x2048x512.size S2x2048x512.size := by revert b; decide
theorem inbW (b : Fin 2) : InB ![b.val, 0, 0] S1x512x1024.size S2x512x1024.size := by revert b; decide
theorem inbS (b : Fin 2) : InB ![b.val, 0, 0] S1x2048x1024.size S2x2048x1024.size := by revert b; decide
theorem inbSh (b h : Fin 2) : InB ![b.val, 1024 * h.val, 0] S1x1024x1024.size S2x2048x1024.size := by revert b h; decide
theorem inbA (h : Fin 2) : InB ![1024 * h.val, 0] S1024x1024.size S2048x1024.size := by revert h; decide
/-- They are made of whole words. -/
theorem wordsS (b : Fin 2) : (Rect.unit (s := S2x2048x1024) ![b.val, 0, 0] S1x2048x1024.size (inbS b)).WholeWords (EltTy.packing .bf16) := by
  revert b; decide
theorem packedSh (b h : Fin 2) : (Rect.unit (s := S2x2048x1024) ![b.val, 1024 * h.val, 0] S1x1024x1024.size (inbSh b h)).PackedRows (EltTy.packing .bf16) := by
  revert b h; decide

/-- Slot `b` of the double buffers, and the semaphore each slot's copy signals. -/
abbrev xSlot (b : Fin 2) : Memref sig .tc .vmem S2048x512 .f32 :=
  (xB.slice (Rect.unit (s := S2x2048x512) ![b.val, 0, 0] S1x2048x512.size (inbX b)) (fun _ => rfl)).squeeze S2048x512 squeezes_S1x2048x512_S2048x512
abbrev wSlot (b : Fin 2) : Memref sig .tc .vmem S512x1024 .f32 :=
  (wB.slice (Rect.unit (s := S2x512x1024) ![b.val, 0, 0] S1x512x1024.size (inbW b)) (fun _ => rfl)).squeeze S512x1024 squeezes_S1x512x1024_S512x1024
abbrev sSlot (b : Fin 2) : Memref sig .tc .vmem S2048x1024 .bf16 :=
  (sB.slice (Rect.unit (s := S2x2048x1024) ![b.val, 0, 0] S1x2048x1024.size (inbS b)) (fun _ => rfl)).squeeze S2048x1024 squeezes_S1x2048x1024_S2048x1024
abbrev xSem (b : Fin 2) : DmaSem sig := ((cc0_scratch5.slice (Rect.unit (s := S2) ![b.val] S1.size (inbSem b))).squeeze S_ squeezes_S1_S_).sem
abbrev wSem (b : Fin 2) : DmaSem sig := ((cc0_scratch6.slice (Rect.unit (s := S2) ![b.val] S1.size (inbSem b))).squeeze S_ squeezes_S1_S_).sem
abbrev sSem (b : Fin 2) : DmaSem sig := ((cc0_scratch7.slice (Rect.unit (s := S2) ![b.val] S1.size (inbSem b))).squeeze S_ squeezes_S1_S_).sem
abbrev rSem (b : Fin 3) : DmaSem sig := ((cc0_scratch8.slice (Rect.unit (s := S3) ![b.val] S1.size (inbSem3 b))).squeeze S_ squeezes_S1_S_).sem
abbrev lSem : DmaSem sig := cc0_scratch9.sem

/-- A block of `x`, of `w`, and of the result in HBM, by its offsets. -/
abbrev xBlk (o : Fin 2 → Nat) (ho : InB o S2048x512.size S2048x8192.size) : Memref sig .tc .hbm S2048x512 .f32 :=
  xH.slice (Rect.unit (s := S2048x8192) o S2048x512.size ho) (fun _ => rfl)
abbrev wBlk (o : Fin 2 → Nat) (ho : InB o S512x1024.size S8192x4096.size) : Memref sig .tc .hbm S512x1024 .f32 :=
  wH.slice (Rect.unit (s := S8192x4096) o S512x1024.size ho) (fun _ => rfl)
abbrev oBlk (o : Fin 2 → Nat) (ho : InB o S2048x1024.size S8192x1024.size) : Memref sig .tc .hbm S2048x1024 .bf16 :=
  oH.slice (Rect.unit (s := S8192x1024) o S2048x1024.size ho) (fun _ => rfl)

abbrev xRect (o : Fin 2 → Nat) (ho : InB o S2048x512.size S2048x8192.size) := Rect.unit (s := S2048x8192) o S2048x512.size ho
abbrev xhRect (o : Fin 2 → Nat) (ho : InB o S1024x512.size S2048x8192.size) := Rect.unit (s := S2048x8192) o S1024x512.size ho
abbrev aRect (h : Fin 2) := Rect.unit (s := S2048x1024) ![1024 * h.val, 0] S1024x1024.size (inbA h)
abbrev shRect (b h : Fin 2) := Rect.unit (s := S2x2048x1024) ![b.val, 1024 * h.val, 0] S1x1024x1024.size (inbSh b h)
abbrev wsRect (b : Fin 2) := Rect.unit (s := S2x512x1024) ![b.val, 0, 0] S1x512x1024.size (inbW b)
abbrev xsRect (b : Fin 2) := Rect.unit (s := S2x2048x512) ![b.val, 0, 0] S1x2048x512.size (inbX b)

/-! ## The values computed -/

/-- A block product: rows of converted `x` by a block of `w`, converted. -/
def prodP (wv : Vec F S1x512x1024 .f32) (xv : Vec F S1024x512 .bf16) : FVec F S1024x1024 .f32 :=
  matmul dot_S1024x512_S512x1024_S1024x1024_1_0_0_1_n_n none xv
    (truncf .bf16 (shapeCast S512x1024 wv shapeCasts_S1x512x1024_S512x1024) bitsLt_bf16_f32) (constant S1024x1024 .f32 0x00000000#32)
def setP (wv : Vec F S1x512x1024 .f32) (xv : Vec F S1024x512 .bf16) : FVec F S1024x1024 .f32 :=
  shapeCast S1024x1024 (prodP wv xv) shapeCasts_S1024x1024_S1024x1024
def addP (wv : Vec F S1x512x1024 .f32) (xv : Vec F S1024x512 .bf16) (av : Vec F S1024x1024 .f32) : FVec F S1024x1024 .f32 :=
  shapeCast S1024x1024 (addf av (prodP wv xv)) shapeCasts_S1024x1024_S1024x1024
def castP (xv : Vec F S1x2048x512 .f32) : FVec F S2048x512 .bf16 :=
  shapeCast S2048x512 (truncf .bf16 (shapeCast S2048x512 xv shapeCasts_S1x2048x512_S2048x512) bitsLt_bf16_f32) shapeCasts_S2048x512_S2048x512
def siluP (av : Vec F S1024x1024 .f32) : FVec F S1x1024x1024 .bf16 := k0_pay38 av

/-! ## The steps -/

abbrev KProg (F : FTy → Type) [FloatOps F] (α : Type) := Prog (TpuEff nD τ sig (Elt F) Λ₀ .tc) α

def xEnq (b : Fin 2) (o : Fin 2 → Nat) (ho : InB o S2048x512.size S2048x8192.size) : KProg F PUnit :=
  Prog.lift (.enqueueDma (xBlk o ho) (.here (xSlot b)) (.dma (xSem b)) (View.wordExact_bits rfl) ((View.wordExact_bits rfl).reshape _ _) ⟨Or.inl rfl, trivial⟩)
def xWait (b : Fin 2) (o : Fin 2 → Nat) (ho : InB o S2048x512.size S2048x8192.size) : KProg F PUnit :=
  Prog.lift (.waitDma2 (xSem b) (xBlk o ho) (xSlot b) (View.wordExact_bits rfl) ((View.wordExact_bits rfl).reshape _ _))
def wEnq (b : Fin 2) (o : Fin 2 → Nat) (ho : InB o S512x1024.size S8192x4096.size) : KProg F PUnit :=
  Prog.lift (.enqueueDma (wBlk o ho) (.here (wSlot b)) (.dma (wSem b)) (View.wordExact_bits rfl) ((View.wordExact_bits rfl).reshape _ _) ⟨Or.inl rfl, trivial⟩)
def wWait (b : Fin 2) (o : Fin 2 → Nat) (ho : InB o S512x1024.size S8192x4096.size) : KProg F PUnit :=
  Prog.lift (.waitDma2 (wSem b) (wBlk o ho) (wSlot b) (View.wordExact_bits rfl) ((View.wordExact_bits rfl).reshape _ _))

/-- A copy started under a condition. -/
def xPre (p : Prop) [Decidable p] (b : Fin 2) (o : Fin 2 → Nat) (ho : p → InB o S2048x512.size S2048x8192.size) : KProg F PUnit :=
  if h : p then xEnq b o (ho h) else pure ⟨⟩
def wPre (p : Prop) [Decidable p] (b : Fin 2) (o : Fin 2 → Nat) (ho : p → InB o S512x1024.size S8192x4096.size) : KProg F PUnit :=
  if h : p then wEnq b o (ho h) else pure ⟨⟩

def wLoad (b : Fin 2) : KProg F (Vec F S1x512x1024 .f32) :=
  Prog.lift (.load wB (wsRect b).toLoadRect (View.loadsAt_vmem h_S1x512x1024))
def aLoad (h : Fin 2) : KProg F (Vec F S1024x1024 .f32) :=
  Prog.lift (.load aV (aRect h).toLoadRect (View.loadsAt_vmem h_S1024x1024))
def xLoad (o : Fin 2 → Nat) (ho : InB o S1024x512.size S2048x8192.size) : KProg F (Vec F S1024x512 .bf16) :=
  Prog.lift (.load xV (xhRect o ho).toLoadRect (View.loadsAt_vmem h_S1024x512))
def aStore (h : Fin 2) (v : FVec F S1024x1024 .f32) : KProg F PUnit :=
  Prog.lift (.store aV (aRect h) v Finset.univ (View.stores_vmem_bits_univ h_S1024x1024 rfl) (.inl rfl))

/-- Convert the block in slot `b` and keep it. -/
def castStep (b : Fin 2) (o : Fin 2 → Nat) (ho : InB o S2048x512.size S2048x8192.size) (hp : (xRect o ho).PackedRows (EltTy.packing .bf16)) : KProg F PUnit := do
  let xv ← Prog.lift (.load xB (xsRect b).toLoadRect (View.loadsAt_vmem h_S1x2048x512))
  let _ ← Prog.lift (.load xV (xRect o ho).toLoadRect (View.loadsAt_vmem h_S2048x512))
  Prog.lift (.store xV (xRect o ho) (castP xv) Finset.univ
    (View.stores_vmem h_S2048x512 ((Memref.isWhole_whole cc0_scratch0).storeExact_slice rfl _ hp) (fun _ => rfl)) (.inl rfl))

/-- The first block's product assigned to the accumulator, a half of the rows at a time. -/
def setStep (b : Fin 2) (o0 o1 : Fin 2 → Nat) (ho0 : InB o0 S1024x512.size S2048x8192.size) (ho1 : InB o1 S1024x512.size S2048x8192.size) : KProg F PUnit := do
  let wv ← wLoad b
  let x0 ← xLoad o0 ho0
  let _ ← aLoad 0
  aStore 0 (setP wv x0)
  let x1 ← xLoad o1 ho1
  let _ ← aLoad 1
  aStore 1 (setP wv x1)
/-- A later block's product added to it. -/
def addStep (b : Fin 2) (o0 o1 : Fin 2 → Nat) (ho0 : InB o0 S1024x512.size S2048x8192.size) (ho1 : InB o1 S1024x512.size S2048x8192.size) : KProg F PUnit := do
  let wv ← wLoad b
  let x0 ← xLoad o0 ho0
  let a0 ← aLoad 0
  let _ ← aLoad 0
  aStore 0 (addP wv x0 a0)
  let x1 ← xLoad o1 ho1
  let a1 ← aLoad 1
  let _ ← aLoad 1
  aStore 1 (addP wv x1 a1)

def siluHalf (b h : Fin 2) : KProg F PUnit := do
  let a ← aLoad h
  let _ ← Prog.lift (.load sB (shRect b h).toLoadRect (View.loadsAt_vmem h_S1x1024x1024))
  Prog.lift (.store sB (shRect b h) (siluP a) Finset.univ
    (View.stores_vmem h_S1x1024x1024 ((Memref.isWhole_whole cc0_scratch4).storeExact_slice rfl _ (packedSh b h)) (fun _ => rfl)) (.inl rfl))
/-- The activation of the accumulator into send slot `b`. -/
def siluStep (b : Fin 2) : KProg F PUnit := do
  siluHalf b 0
  siluHalf b 1

/-- A trip of the loops over the second to fourth columns: two blocks multiplied in, two copies started. -/
def wTrip (w0 w1 : Fin 2 → Nat) (hw0 : InB w0 S512x1024.size S8192x4096.size) (hw1 : InB w1 S512x1024.size S8192x4096.size)
    (x00 x01 x10 x11 : Fin 2 → Nat) (hx00 : InB x00 S1024x512.size S2048x8192.size) (hx01 : InB x01 S1024x512.size S2048x8192.size)
    (hx10 : InB x10 S1024x512.size S2048x8192.size) (hx11 : InB x11 S1024x512.size S2048x8192.size)
    (p0 p1 : Prop) [Decidable p0] [Decidable p1] (n0 n1 : Fin 2 → Nat)
    (hn0 : p0 → InB n0 S512x1024.size S8192x4096.size) (hn1 : p1 → InB n1 S512x1024.size S8192x4096.size) : KProg F Unit := do
  wWait 0 w0 hw0
  addStep 0 x00 x01 hx00 hx01
  wPre p0 0 n0 hn0
  wWait 1 w1 hw1
  addStep 1 x10 x11 hx10 hx11
  wPre p1 1 n1 hn1
  pure ⟨⟩

/-- A trip of the first column's loop: each block of `x` is also received and converted. -/
def xTrip (w0 w1 : Fin 2 → Nat) (hw0 : InB w0 S512x1024.size S8192x4096.size) (hw1 : InB w1 S512x1024.size S8192x4096.size)
    (x00 x01 x10 x11 : Fin 2 → Nat) (hx00 : InB x00 S1024x512.size S2048x8192.size) (hx01 : InB x01 S1024x512.size S2048x8192.size)
    (hx10 : InB x10 S1024x512.size S2048x8192.size) (hx11 : InB x11 S1024x512.size S2048x8192.size)
    (p0 p1 : Prop) [Decidable p0] [Decidable p1] (n0 n1 : Fin 2 → Nat)
    (hn0 : p0 → InB n0 S512x1024.size S8192x4096.size) (hn1 : p1 → InB n1 S512x1024.size S8192x4096.size)
    (y0 y1 z0 z1 : Fin 2 → Nat) (hy0 : InB y0 S2048x512.size S2048x8192.size) (hy1 : InB y1 S2048x512.size S2048x8192.size)
    (hz0 : InB z0 S2048x512.size S2048x8192.size) (hz1 : InB z1 S2048x512.size S2048x8192.size)
    (hp0 : (xRect z0 hz0).PackedRows (EltTy.packing .bf16)) (hp1 : (xRect z1 hz1).PackedRows (EltTy.packing .bf16))
    (q0 q1 : Prop) [Decidable q0] [Decidable q1] (m0 m1 : Fin 2 → Nat)
    (hm0 : q0 → InB m0 S2048x512.size S2048x8192.size) (hm1 : q1 → InB m1 S2048x512.size S2048x8192.size) : KProg F Unit := do
  xWait 0 y0 hy0
  castStep 0 z0 hz0 hp0
  xPre q0 0 m0 hm0
  wWait 0 w0 hw0
  addStep 0 x00 x01 hx00 hx01
  wPre p0 0 n0 hn0
  xWait 1 y1 hy1
  castStep 1 z1 hz1 hp1
  xPre q1 1 m1 hm1
  wWait 1 w1 hw1
  addStep 1 x10 x11 hx10 hx11
  wPre p1 1 n1 hn1
  pure ⟨⟩

end Cert.KernelProof

end
-- ==== Proof.Trips.lean ====
/- The kernel's loop regions and its whole body as sequences of the steps. -/
module

public import proofs.«01_k».proof.Proof.Steps

@[expose] public section

set_option maxRecDepth 65536

noncomputable section

namespace Cert.KernelProof

open Cert.KernelIdeal Cert.KernelIdeal.Gen
open Idealize.ShloMosaic Idealize.SL.Sem

variable {F : FTy → Type} [FloatOps F]

/-! ## The loop regions -/

abbrev tBody1 (d0 : Dev nD) (v53 : BitVec 32) (v64 : BitVec 32) (v177 : FVec F S1024x1024 .f32) :=
  k0_t1_body (F := F) xH (Memref.isWhole_whole _) wH (Memref.isWhole_whole _) oH (Memref.isWhole_whole _) xV (Memref.isWhole_whole _) xB (Memref.isWhole_whole _)
    wB (Memref.isWhole_whole _) aV (Memref.isWhole_whole _) sB (Memref.isWhole_whole _) cc0_scratch5 cc0_scratch6 cc0_scratch7 cc0_scratch8 cc0_scratch9 d0 v53 v64 v177

def trip1 (c : Dev nD) (t : Fin k0_t1_loop.trips) : KProg F Unit :=
  xTrip (k0_off8 c t 0#32) (k0_off8 c t 1#32) (k0_off8_inb c t 0) (k0_off8_inb c t 1)
    (k0_off9 t 0#32) (k0_off10 t 0#32) (k0_off9 t 1#32) (k0_off10 t 1#32) (k0_off9_inb t 0) (k0_off10_inb t 0) (k0_off9_inb t 1) (k0_off10_inb t 1)
    (k0_cond2 t = 1#1) (k0_cond4 t = 1#1) (k0_off11 c t) (k0_off13 c t) (k0_off11_inb c t) (k0_off13_inb c t)
    (k0_off5 t 0#32) (k0_off5 t 1#32) (k0_off6 t 0#32) (k0_off6 t 1#32) (k0_off5_inb t 0) (k0_off5_inb t 1) (k0_off6_inb t 0) (k0_off6_inb t 1)
    (k0_off6_packedbf16 t 0) (k0_off6_packedbf16 t 1)
    (k0_cond1 t = 1#1) (k0_cond3 t = 1#1) (k0_off7 t) (k0_off12 t) (k0_off7_inb t) (k0_off12_inb t)

/-- The next blocks are loaded in all trips but the last. -/
theorem cond1_iff : ∀ t : Fin k0_t1_loop.trips, (k0_cond1 t = 1#1 ↔ t.val < 6) := by decide +kernel
theorem cond2_iff : ∀ t : Fin k0_t1_loop.trips, (k0_cond2 t = 1#1 ↔ t.val < 6) := by decide +kernel
theorem cond3_iff : ∀ t : Fin k0_t1_loop.trips, (k0_cond3 t = 1#1 ↔ t.val < 6) := by decide +kernel
theorem cond4_iff : ∀ t : Fin k0_t1_loop.trips, (k0_cond4 t = 1#1 ↔ t.val < 6) := by decide +kernel

/-- The first loop's body is a trip. -/
theorem t1_eq (c : Dev nD) (v53 v64 : BitVec 32) (v177 : FVec F S1024x1024 .f32) : tBody1 (F := F) c v53 v64 v177 = fun t _ => trip1 c t := by
  funext t u
  unfold tBody1 k0_t1_body trip1 xTrip wPre xPre
  rw [k0_part1_eq_skeleton, k0_part2_eq_skeleton, k0_part3_eq_skeleton]
  unfold k0_part1_skel k0_part2_skel k0_part3_skel
  by_cases h : t.val < 6
  · simp only [dif_pos ((cond1_iff t).mpr h), dif_pos ((cond2_iff t).mpr h), dif_pos ((cond3_iff t).mpr h), dif_pos ((cond4_iff t).mpr h)]; rfl
  · simp only [dif_neg (fun h' => h ((cond1_iff t).mp h')), dif_neg (fun h' => h ((cond2_iff t).mp h')), dif_neg (fun h' => h ((cond3_iff t).mp h')),
      dif_neg (fun h' => h ((cond4_iff t).mp h'))]; rfl

abbrev tBody2 (d0 : Dev nD) (v64 : BitVec 32) (v75 : BitVec 32) :=
  k0_t2_body (F := F) xH (Memref.isWhole_whole _) wH (Memref.isWhole_whole _) oH (Memref.isWhole_whole _) xV (Memref.isWhole_whole _) xB (Memref.isWhole_whole _)
    wB (Memref.isWhole_whole _) aV (Memref.isWhole_whole _) sB (Memref.isWhole_whole _) cc0_scratch5 cc0_scratch6 cc0_scratch7 cc0_scratch8 cc0_scratch9 d0 v64 v75

def trip2 (c : Dev nD) (t : Fin k0_t2_loop.trips) : KProg F Unit :=
  wTrip (k0_off15 c t 0#32) (k0_off15 c t 1#32) (k0_off15_inb c t 0) (k0_off15_inb c t 1)
    (k0_off16 t 0#32) (k0_off17 t 0#32) (k0_off16 t 1#32) (k0_off17 t 1#32) (k0_off16_inb t 0) (k0_off17_inb t 0) (k0_off16_inb t 1) (k0_off17_inb t 1)
    (k0_cond5 t = 1#1) (k0_cond6 t = 1#1) (k0_off18 c t) (k0_off19 c t) (k0_off18_inb c t) (k0_off19_inb c t)

/-- The same in the second loop. -/
theorem cond5_iff : ∀ t : Fin k0_t2_loop.trips, (k0_cond5 t = 1#1 ↔ t.val < 6) := by decide +kernel
theorem cond6_iff : ∀ t : Fin k0_t2_loop.trips, (k0_cond6 t = 1#1 ↔ t.val < 6) := by decide +kernel

/-- The second loop's body is a trip. -/
theorem t2_eq (c : Dev nD) (v64 : BitVec 32) (v75 : BitVec 32) : tBody2 (F := F) c v64 v75 = fun t _ => trip2 c t := by
  funext t u
  unfold tBody2 k0_t2_body trip2 wTrip wPre
  rw [k0_part4_eq_skeleton, k0_part5_eq_skeleton]
  unfold k0_part4_skel k0_part5_skel
  by_cases h : t.val < 6
  · simp only [dif_pos ((cond5_iff t).mpr h), dif_pos ((cond6_iff t).mpr h)]; rfl
  · simp only [dif_neg (fun h' => h ((cond5_iff t).mp h')), dif_neg (fun h' => h ((cond6_iff t).mp h'))]; rfl

abbrev tBody3 (d0 : Dev nD) (v2 : BitVec 32) (v75 : BitVec 32) (v380 : FVec F S1024x1024 .f32) :=
  k0_t3_body (F := F) xH (Memref.isWhole_whole _) wH (Memref.isWhole_whole _) oH (Memref.isWhole_whole _) xV (Memref.isWhole_whole _) xB (Memref.isWhole_whole _)
    wB (Memref.isWhole_whole _) aV (Memref.isWhole_whole _) sB (Memref.isWhole_whole _) cc0_scratch5 cc0_scratch6 cc0_scratch7 cc0_scratch8 cc0_scratch9 d0 v2 v75 v380

def trip3 (c : Dev nD) (t : Fin k0_t3_loop.trips) : KProg F Unit :=
  wTrip (k0_off20 c t 0#32) (k0_off20 c t 1#32) (k0_off20_inb c t 0) (k0_off20_inb c t 1)
    (k0_off21 t 0#32) (k0_off22 t 0#32) (k0_off21 t 1#32) (k0_off22 t 1#32) (k0_off21_inb t 0) (k0_off22_inb t 0) (k0_off21_inb t 1) (k0_off22_inb t 1)
    (k0_cond7 t = 1#1) (k0_cond8 t = 1#1) (k0_off23 c t) (k0_off24 c t) (k0_off23_inb c t) (k0_off24_inb c t)

/-- The same in the third loop. -/
theorem cond7_iff : ∀ t : Fin k0_t3_loop.trips, (k0_cond7 t = 1#1 ↔ t.val < 6) := by decide +kernel
theorem cond8_iff : ∀ t : Fin k0_t3_loop.trips, (k0_cond8 t = 1#1 ↔ t.val < 6) := by decide +kernel

/-- The third loop's body is a trip. -/
theorem t3_eq (c : Dev nD) (v2 : BitVec 32) (v75 : BitVec 32) (v380 : FVec F S1024x1024 .f32) : tBody3 (F := F) c v2 v75 v380 = fun t _ => trip3 c t := by
  funext t u
  unfold tBody3 k0_t3_body trip3 wTrip wPre
  rw [k0_part6_eq_skeleton, k0_part7_eq_skeleton]
  unfold k0_part6_skel k0_part7_skel
  by_cases h : t.val < 6
  · simp only [dif_pos ((cond7_iff t).mpr h), dif_pos ((cond8_iff t).mpr h)]; rfl
  · simp only [dif_neg (fun h' => h ((cond7_iff t).mp h')), dif_neg (fun h' => h ((cond8_iff t).mp h'))]; rfl

abbrev tBody4 (d0 : Dev nD) (v2 : BitVec 32) :=
  k0_t4_body (F := F) xH (Memref.isWhole_whole _) wH (Memref.isWhole_whole _) oH (Memref.isWhole_whole _) xV (Memref.isWhole_whole _) xB (Memref.isWhole_whole _)
    wB (Memref.isWhole_whole _) aV (Memref.isWhole_whole _) sB (Memref.isWhole_whole _) cc0_scratch5 cc0_scratch6 cc0_scratch7 cc0_scratch8 cc0_scratch9 d0 v2

def trip4 (c : Dev nD) (t : Fin k0_t4_loop.trips) : KProg F Unit :=
  wTrip (k0_off29 c t 0#32) (k0_off29 c t 1#32) (k0_off29_inb c t 0) (k0_off29_inb c t 1)
    (k0_off30 t 0#32) (k0_off31 t 0#32) (k0_off30 t 1#32) (k0_off31 t 1#32) (k0_off30_inb t 0) (k0_off31_inb t 0) (k0_off30_inb t 1) (k0_off31_inb t 1)
    (k0_cond9 t = 1#1) (k0_cond10 t = 1#1) (k0_off32 c t) (k0_off33 c t) (k0_off32_inb c t) (k0_off33_inb c t)

/-- The same in the last loop. -/
theorem cond9_iff : ∀ t : Fin k0_t4_loop.trips, (k0_cond9 t = 1#1 ↔ t.val < 6) := by decide +kernel
theorem cond10_iff : ∀ t : Fin k0_t4_loop.trips, (k0_cond10 t = 1#1 ↔ t.val < 6) := by decide +kernel

/-- The last loop's body is a trip. -/
theorem t4_eq (c : Dev nD) (v2 : BitVec 32) : tBody4 (F := F) c v2 = fun t _ => trip4 c t := by
  funext t u
  unfold tBody4 k0_t4_body trip4 wTrip wPre
  rw [k0_part8_eq_skeleton, k0_part9_eq_skeleton]
  unfold k0_part8_skel k0_part9_skel
  by_cases h : t.val < 6
  · simp only [dif_pos ((cond9_iff t).mpr h), dif_pos ((cond10_iff t).mpr h)]; rfl
  · simp only [dif_neg (fun h' => h ((cond9_iff t).mp h')), dif_neg (fun h' => h ((cond10_iff t).mp h'))]; rfl

end Cert.KernelProof

end
-- ==== Proof.Flow.lean ====
/- The kernel's whole body as a sequence of the steps: the handshake, then the four columns, each its
   first two blocks, its loop, its activation and its copy out, then the last waits. -/
module

public import proofs.«01_k».proof.Proof.Trips

@[expose] public section

set_option maxRecDepth 65536

noncomputable section

namespace Cert.KernelProof

open Cert.KernelIdeal Cert.KernelIdeal.Gen
open Idealize.ShloMosaic Idealize.SL.Sem

variable {F : FTy → Type} [FloatOps F]

/-- The runtime's barrier semaphore. -/
abbrev barS : Sem sig := (SemArray.scalar (sig.barrier 0 rfl) : Sems sig S_).sem

abbrev dev1 (c : Dev nD) : Dev nD := ⟨k0_dev1 c, k0_dev1_lt c⟩
abbrev dev2 (c : Dev nD) : Dev nD := ⟨k0_dev2 c, k0_dev2_lt c⟩
abbrev dev3 (c : Dev nD) : Dev nD := ⟨k0_dev3 c, k0_dev3_lt c⟩
abbrev dev4 (c : Dev nD) : Dev nD := ⟨k0_dev4 c, k0_dev4_lt c⟩
abbrev dev5 (c : Dev nD) : Dev nD := ⟨k0_dev5 c, k0_dev5_lt c⟩
abbrev dev6 (c : Dev nD) : Dev nD := ⟨k0_dev6 c, k0_dev6_lt c⟩

/-- The rows of the result that device `c` computes. -/
abbrev oRow (c : Dev nD) : Memref sig .tc .hbm S2048x1024 .bf16 := oBlk (k0_off14 c) (k0_off14_inb c)

def sendStep (b : Fin 2) (r : Fin 3) (c n : Dev nD) : KProg F PUnit :=
  Prog.lift (.enqueueDma (sSlot b) (.remote (Dev.tc n) (oRow c) (.dma (sSem b))) (.dma (rSem r))
    (((Memref.isWhole_whole cc0_scratch4).wordExact_slice rfl _ (wordsS b)).reshape _ _)
    ((Memref.isWhole_whole main_v1).wordExact_slice rfl _ (k0_off14_wordsbf16 c)) ⟨⟨rfl, Or.inl rfl⟩, trivial⟩)
def sentWait (b : Fin 2) (c : Dev nD) : KProg F PUnit :=
  Prog.lift (.waitDma2 (sSem b) (oRow c) (sSlot b) ((Memref.isWhole_whole main_v1).wordExact_slice rfl _ (k0_off14_wordsbf16 c))
    (((Memref.isWhole_whole cc0_scratch4).wordExact_slice rfl _ (wordsS b)).reshape _ _))
def keepStep (c : Dev nD) : KProg F PUnit :=
  Prog.lift (.enqueueDma (sSlot 1) (.here (oRow c)) (.dma lSem) (((Memref.isWhole_whole cc0_scratch4).wordExact_slice rfl _ (wordsS 1)).reshape _ _)
    ((Memref.isWhole_whole main_v1).wordExact_slice rfl _ (k0_off14_wordsbf16 c)) ⟨Or.inl rfl, trivial⟩)
def keptWait (c : Dev nD) : KProg F PUnit :=
  Prog.lift (.waitDma2 lSem (sSlot 1) (oRow c) (((Memref.isWhole_whole cc0_scratch4).wordExact_slice rfl _ (wordsS 1)).reshape _ _)
    ((Memref.isWhole_whole main_v1).wordExact_slice rfl _ (k0_off14_wordsbf16 c)))
def recvWait (r : Fin 3) (c : Dev nD) (o : Fin 2 → Nat) (ho : InB o S2048x1024.size S8192x1024.size)
    (hw : (Rect.unit (s := S8192x1024) o S2048x1024.size ho).WholeWords (EltTy.packing .bf16)) : KProg F PUnit :=
  Prog.lift (.waitDma2 (rSem r) (sSlot 0) (oBlk o ho) (((Memref.isWhole_whole cc0_scratch4).wordExact_slice rfl _ (wordsS 0)).reshape _ _)
    ((Memref.isWhole_whole main_v1).wordExact_slice rfl _ hw))

def handshake (c : Dev nD) : KProg F PUnit := do
  semSignalWord (dev1 c) barS 1#32
  semSignalWord (dev2 c) barS 1#32
  semSignalWord (dev3 c) barS 1#32
  semWaitWord barS 3#32

/-- The first column before its loop. -/
def head1 (c : Dev nD) : KProg F PUnit := do
  wEnq 0 (k0_off1 c 1#32) (k0_off1_inb c 0)
  wEnq 1 (k0_off2 c 1#32) (k0_off2_inb c 0)
  xEnq 0 ![0, 0] inb_S2048x8192_S2048x512_0_0
  xEnq 1 ![0, 512] inb_S2048x8192_S2048x512_0_512
  xWait 0 ![0, 0] inb_S2048x8192_S2048x512_0_0
  castStep 0 ![0, 0] inb_S2048x8192_S2048x512_0_0 packedbf16_S2048x8192_S2048x512_0_0
  xEnq 0 ![0, 1024] inb_S2048x8192_S2048x512_0_1024
  wWait 0 (k0_off1 c 1#32) (k0_off1_inb c 0)
  setStep 0 ![0, 0] ![1024, 0] inb_S2048x8192_S1024x512_0_0 inb_S2048x8192_S1024x512_1024_0
  wEnq 0 (k0_off3 c 1#32) (k0_off3_inb c 0)
  xWait 1 ![0, 512] inb_S2048x8192_S2048x512_0_512
  castStep 1 ![0, 512] inb_S2048x8192_S2048x512_0_512 packedbf16_S2048x8192_S2048x512_0_512
  xEnq 1 ![0, 1536] inb_S2048x8192_S2048x512_0_1536
  wWait 1 (k0_off2 c 1#32) (k0_off2_inb c 0)
  addStep 1 ![0, 512] ![1024, 512] inb_S2048x8192_S1024x512_0_512 inb_S2048x8192_S1024x512_1024_512
  wEnq 1 (k0_off4 c 1#32) (k0_off4_inb c 0)

/-- A later column before its loop: its blocks 0 and 1, and the copies of blocks 2 and 3 started. -/
def headN (w0 w1 w2 w3 : Fin 2 → Nat) (h0 : InB w0 S512x1024.size S8192x4096.size) (h1 : InB w1 S512x1024.size S8192x4096.size)
    (h2 : InB w2 S512x1024.size S8192x4096.size) (h3 : InB w3 S512x1024.size S8192x4096.size) : KProg F PUnit := do
  wWait 0 w0 h0
  setStep 0 ![0, 0] ![1024, 0] inb_S2048x8192_S1024x512_0_0 inb_S2048x8192_S1024x512_1024_0
  wEnq 0 w2 h2
  wWait 1 w1 h1
  addStep 1 ![0, 512] ![1024, 512] inb_S2048x8192_S1024x512_0_512 inb_S2048x8192_S1024x512_1024_512
  wEnq 1 w3 h3

/-- The next column's blocks 0 and 1 started. -/
def ahead (w0 w1 : Fin 2 → Nat) (h0 : InB w0 S512x1024.size S8192x4096.size) (h1 : InB w1 S512x1024.size S8192x4096.size) : KProg F PUnit := do
  wEnq 0 w0 h0
  wEnq 1 w1 h1

def tail4 (c : Dev nD) : KProg F PUnit := do
  sentWait 1 c
  siluStep 1
  keepStep c
  sentWait 0 c
  keptWait c
  recvWait 0 c (k0_off34 c 1#32) (k0_off34_inb c 0) (k0_off34_wordsbf16 c 0)
  recvWait 1 c (k0_off34 c 2#32) (k0_off34_inb c 1) (k0_off34_wordsbf16 c 1)
  recvWait 2 c (k0_off34 c 3#32) (k0_off34_inb c 2) (k0_off34_wordsbf16 c 2)

def seg0 (c : Dev nD) : KProg F PUnit := do
  handshake c
  head1 c
def seg1 (c : Dev nD) : KProg F PUnit := do
  ahead (k0_off1 c 2#32) (k0_off2 c 2#32) (k0_off1_inb c 1) (k0_off2_inb c 1)
  siluStep 0
  sendStep 0 0 c (dev4 c)
  headN (k0_off1 c 2#32) (k0_off2 c 2#32) (k0_off3 c 2#32) (k0_off4 c 2#32) (k0_off1_inb c 1) (k0_off2_inb c 1) (k0_off3_inb c 1) (k0_off4_inb c 1)
def seg2 (c : Dev nD) : KProg F PUnit := do
  ahead (k0_off1 c 3#32) (k0_off2 c 3#32) (k0_off1_inb c 2) (k0_off2_inb c 2)
  siluStep 1
  sendStep 1 1 c (dev5 c)
  headN (k0_off1 c 3#32) (k0_off2 c 3#32) (k0_off3 c 3#32) (k0_off4 c 3#32) (k0_off1_inb c 2) (k0_off2_inb c 2) (k0_off3_inb c 2) (k0_off4_inb c 2)
def seg3 (c : Dev nD) : KProg F PUnit := do
  ahead (k0_off25 c) (k0_off26 c) (k0_off25_inb c) (k0_off26_inb c)
  sentWait 0 c
  siluStep 0
  sendStep 0 2 c (dev6 c)
  headN (k0_off25 c) (k0_off26 c) (k0_off27 c) (k0_off28 c) (k0_off25_inb c) (k0_off26_inb c) (k0_off27_inb c) (k0_off28_inb c)

def loop1 (c : Dev nD) : KProg F Unit := Scf.Loop.for k0_t1_loop k0_t1_ok ⟨⟩ (fun t _ => trip1 c t)
def loop2 (c : Dev nD) : KProg F Unit := Scf.Loop.for k0_t2_loop k0_t2_ok ⟨⟩ (fun t _ => trip2 c t)
def loop3 (c : Dev nD) : KProg F Unit := Scf.Loop.for k0_t3_loop k0_t3_ok ⟨⟩ (fun t _ => trip3 c t)
def loop4 (c : Dev nD) : KProg F Unit := Scf.Loop.for k0_t4_loop k0_t4_ok ⟨⟩ (fun t _ => trip4 c t)

def flow (c : Dev nD) : KProg F PUnit := do
  seg0 c
  let _ ← loop1 c
  seg1 c
  let _ ← loop2 c
  seg2 c
  let _ ← loop3 c
  seg3 c
  let _ ← loop4 c
  tail4 c

/-- The kernel's body is that sequence. -/
theorem body_eq :
    cc0_body (F := F) xH (Memref.isWhole_whole _) wH (Memref.isWhole_whole _) oH (Memref.isWhole_whole _) xV (Memref.isWhole_whole _) xB (Memref.isWhole_whole _)
      wB (Memref.isWhole_whole _) aV (Memref.isWhole_whole _) sB (Memref.isWhole_whole _) cc0_scratch5 cc0_scratch6 cc0_scratch7 cc0_scratch8 cc0_scratch9
    = Prog.lift .deviceId >>= flow := by
  rw [cc0_body_eq_skeleton]
  unfold cc0_body_skel flow
  have e16 := fun (c : Dev nD) (v53 v64 : BitVec 32) (v177 : FVec F S1024x1024 .f32) => t1_eq (F := F) c v53 v64 v177
  have e19 := fun (c : Dev nD) (v64 v75 : BitVec 32) => t2_eq (F := F) c v64 v75
  have e23 := fun (c : Dev nD) (v2 v75 : BitVec 32) (v380 : FVec F S1024x1024 .f32) => t3_eq (F := F) c v2 v75 v380
  have e27 := fun (c : Dev nD) (v2 : BitVec 32) => t4_eq (F := F) c v2
  unfold tBody1 at e16; unfold tBody2 at e19; unfold tBody3 at e23; unfold tBody4 at e27
  rw [k0_part16_eq_skeleton, k0_part19_eq_skeleton, k0_part23_eq_skeleton, k0_part27_eq_skeleton]
  unfold k0_part16_skel k0_part19_skel k0_part23_skel k0_part27_skel
  simp only [e16, e19, e23, e27, bind_assoc]
  rfl

end Cert.KernelProof

end
-- ==== Proof.Setup.lean ====
/- The resource algebra of the proof, and the rules for the copies a device makes within itself: a
   copy started, the copy in flight, and what its wait hands back. -/
module

public import proofs.«01_k».proof.Proof.Flow
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The cells shared between devices (at most three duties a round), and the counters of local copies. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- A device's program run to its end. -/
abbrev WP {α : Type} (c : Dev nD) (p : KProg F α) (Q : α → sProp 𝕄) : sProp 𝕄 :=
  wp frame (wpE (defs₀ (F := F)) 𝒱₀ (c : Thread nD τ) none) Set.univ p Q

/-! ## Copies within a device -/

/-- What a device owes while it copies: something, having waited somewhere. -/
def owesSome (c : Dev nD) (O : CellTallies nD τ sig Unit) : sProp 𝕄 := iprop(∃ W, owes (c : Thread nD τ) O W)

/-- A copy in flight from (part of) an array at contents `fs`, a share `q` of which it holds, to a buffer; the
    rest of that share is kept beside it. -/
def Fly {s : Shape} {e : EltTy} (c : Dev nD) (src : Memref sig .tc .hbm s e) (dst : Memref sig .tc .vmem s e) (sem : DmaSem sig)
    (q : PosShare TreeShare) (fs : Buf (Elt F) (src.view.loc (c : Thread nD τ))) : sProp 𝕄 :=
  iprop(Transfers.Flight EC (c : Thread nD τ) (.dma sem) () dst.view.dmaCredit
      iprop((∃ f, ⌜dst.view.read (Elt F) f = src.view.read (Elt F) fs⌝ ∗ (dst.view.loc (c : Thread nD τ) ↦[dst.view.set]{fullShare} f))
        ∗ (src.view.loc (c : Thread nD τ) ↦[src.view.set]{q} fs))
    ∗ (src.view.loc (c : Thread nD τ) ↦[Finset.univ \ src.view.set]{q} fs))

/-- A load is started: the block's source stays readable, its slot and its semaphore are given away. -/
theorem enq_rule {s : Shape} {e : EltTy} (c : Dev nD) (src : Memref sig .tc .hbm s e) (dst : Memref sig .tc .vmem s e) (sem : DmaSem sig)
    {hsrc : src.view.WordExact} {hdst : dst.view.WordExact} {hsem : DmaTarget.Typed (nD := nD) (τ := τ) (p := .tc) .hbm (.dma sem) (.here dst)}
    (hn : 0 < s.numel) (q : PosShare TreeShare) (fs : Buf (Elt F) (src.view.loc (c : Thread nD τ)))
    (fd : Buf (Elt F) (dst.view.loc (c : Thread nD τ))) {α : Type} {kk : PUnit → KProg F α} {Q : α → sProp 𝕄} :
    iprop((src.view.loc (c : Thread nD τ) ↦{q} fs) ∗ (dst.view.loc (c : Thread nD τ) ↦[dst.view.set]{fullShare} fd) ∗ semVal ((c : Thread nD τ), .dma sem) 0)
      ⊢ iprop((Fly c src dst sem q fs -∗ WP c (kk ⟨⟩) Q) -∗ WP c (Prog.lift (.enqueueDma src (.here dst) (.dma sem) hsrc hdst hsem) >>= kk) Q) := by
  have hm : iprop((dst.view.loc (c : Thread nD τ) ↦[dst.view.set]{fullShare} (dst.view.write (Elt F) fd (src.view.read (Elt F) fs) Finset.univ))
        ∗ (src.view.loc (c : Thread nD τ) ↦[src.view.set]{q} fs))
      ⊢ (iprop((∃ f, ⌜dst.view.read (Elt F) f = src.view.read (Elt F) fs⌝ ∗ (dst.view.loc (c : Thread nD τ) ↦[dst.view.set]{fullShare} f))
        ∗ (src.view.loc (c : Thread nD τ) ↦[src.view.set]{q} fs)) : sProp 𝕄) := by
    iintro ⟨Hd, Hs⟩
    isplitl [Hd]
    · iexists (dst.view.write (Elt F) fd (src.view.read (Elt F) fs) Finset.univ)
      isplitr; · ipureintro; exact View.read_write_univ _ _
      iexact Hd
    iexact Hs
  simp only [Prog.lift, Prog.bind_op, Prog.bind_ret]
  iintro ⟨Hs, Hd, Hv⟩ Hk
  ihave Hs' := (pointsTo_split_subset (Finset.subset_univ src.view.set)).1 $$ Hs
  icases Hs' with ⟨Hs, Hrest⟩
  iapply (Transfers.wp_dmaLocal EC 𝒱₀ (c : Thread nD τ) none () dst.view.dmaCredit rfl (View.dmaCredit_pos _ hn) (Finset.Subset.refl dst.view.set)) $$ [Hs Hd Hv]
  · isplitl [Hs]; · iexact Hs
    isplitl [Hd]; · iexact Hd
    iexact Hv
  iintro Hf
  iapply Hk
  unfold Fly
  isplitr [Hrest]
  · iapply (Transfers.Flight_mono EC (c : Thread nD τ) hm) $$ Hf
  iexact Hrest

/-- Its wait gives back the slot, holding the block, and the semaphore at zero. -/
theorem wait_rule {s : Shape} {e : EltTy} (c : Dev nD) (src src' : Memref sig .tc .hbm s e) (dst : Memref sig .tc .vmem s e) (sem : DmaSem sig)
    {hsrc : src'.view.WordExact} {hdst : dst.view.WordExact}
    (q : PosShare TreeShare) (fs : Buf (Elt F) (src.view.loc (c : Thread nD τ)))
    (O : CellTallies nD τ sig Unit) {α : Type} {kk : PUnit → KProg F α} {Q : α → sProp 𝕄} :
    iprop(Fly c src dst sem q fs ∗ owesSome c O ∗ MayWait (c : Thread nD τ) (.dma sem) () O)
      ⊢ iprop((((∃ f, ⌜dst.view.read (Elt F) f = src.view.read (Elt F) fs⌝ ∗ (dst.view.loc (c : Thread nD τ) ↦[dst.view.set]{fullShare} f))
          ∗ semVal ((c : Thread nD τ), .dma sem) 0 ∗ (src.view.loc (c : Thread nD τ) ↦{q} fs) ∗ owesSome c O) -∗ WP c (kk ⟨⟩) Q)
        -∗ WP c (Prog.lift (.waitDma2 sem src' dst hsrc hdst) >>= kk) Q) := by
  simp only [Prog.lift, Prog.bind_op, Prog.bind_ret]
  unfold Fly owesSome
  iintro ⟨⟨Hf, Hrest⟩, ⟨%W, HO⟩, HM⟩ Hk
  iapply (Transfers.wp_waitLocalO EC 𝒱₀ (c : Thread nD τ) none () rfl (O := O) (W := W)) $$ [Hf HO HM]
  · isplitl [Hf]; · iexact Hf
    isplitl [HO]; · iexact HO
    iexact HM
  iintro ⟨⟨Hd, Hs⟩, Hv, HO⟩
  iapply Hk
  isplitl [Hd]; · iexact Hd
  isplitl [Hv]; · iexact Hv
  isplitl [Hs Hrest]
  · iapply (pointsTo_split_subset (Finset.subset_univ src.view.set)).2
    isplitl [Hs] <;> iassumption
  iexists _; iexact HO

end Cert.KernelProof

end
-- ==== Proof.Spec.lean ====
/- What the kernel's buffers hold, as functions of the contents of `x` and `w`: a block of `w`, the
   converted `x`, the accumulator after a number of blocks, the activation. -/
module

public import proofs.«01_k».proof.Proof.Setup

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev XC (F : FTy → Type) : Type := (main_arg0 : Ref sig .tc).ty.Contents (Elt F)
abbrev WC (F : FTy → Type) : Type := (main_arg1 : Ref sig .tc).ty.Contents (Elt F)

/-- Offsets of block `k` of column `j` of `w`, of block `k` of `x`, and of half `h` of it. -/
def wOff (k j : ℕ) : Fin 2 → ℕ := ![512 * (k % 16), 1024 * (j % 4)]
def xOff (k : ℕ) : Fin 2 → ℕ := ![0, 512 * (k % 16)]
def xhOff (h : Fin 2) (k : ℕ) : Fin 2 → ℕ := ![1024 * h.val, 512 * (k % 16)]

/-- The blocks are within the arrays. -/
theorem wOff_in (k j : ℕ) : InB (wOff k j) S512x1024.size S8192x4096.size := by
  intro a; unfold wOff
  fin_cases a
  · show 512 * (k % 16) + 512 ≤ 8192; omega
  · show 1024 * (j % 4) + 1024 ≤ 4096; omega
theorem xOff_in (k : ℕ) : InB (xOff k) S2048x512.size S2048x8192.size := by
  intro a; unfold xOff
  fin_cases a
  · show 0 + 2048 ≤ 2048; omega
  · show 512 * (k % 16) + 512 ≤ 8192; omega
theorem xhOff_in (h : Fin 2) (k : ℕ) : InB (xhOff h k) S1024x512.size S2048x8192.size := by
  intro a; unfold xhOff
  fin_cases a
  · show 1024 * h.val + 1024 ≤ 2048; omega
  · show 512 * (k % 16) + 512 ≤ 8192; omega

/-- A block's offset from its numbers. -/
theorem wOff_eq {k j a b : ℕ} (hk : k < 16) (hj : j < 4) (ha : a = 512 * k) (hb : b = 1024 * j) : ![a, b] = wOff k j := by
  subst ha hb; unfold wOff; rw [Nat.mod_eq_of_lt hk, Nat.mod_eq_of_lt hj]
theorem xOff_eq {k b : ℕ} (hk : k < 16) (hb : b = 512 * k) : ![0, b] = xOff k := by
  subst hb; unfold xOff; rw [Nat.mod_eq_of_lt hk]
theorem xhOff_eq {h : Fin 2} {k a b : ℕ} (hk : k < 16) (ha : a = 1024 * h.val) (hb : b = 512 * k) : ![a, b] = xhOff h k := by
  subst ha hb; unfold xhOff; rw [Nat.mod_eq_of_lt hk]

/-- Block `k` of column `j` of `w`. -/
def wK (fw : WC F) (k j : ℕ) : Vec F S512x1024 .f32 := (wBlk (wOff k j) (wOff_in k j)).view.read (Elt F) fw
/-- Block `k` of `x`, as read. -/
def xK (fx : XC F) (k : ℕ) : Vec F S2048x512 .f32 := (xBlk (xOff k) (xOff_in k)).view.read (Elt F) fx
/-- The whole of `x`, converted. -/
def xCast (fx : XC F) : (cc0_scratch0 : Ref sig .tc).ty.Contents (Elt F) :=
  (truncf .bf16 (fx : Vec F S2048x8192 .f32) bitsLt_bf16_f32 : FVec F S2048x8192 .bf16)
/-- Half `h` of the rows of block `k` of the converted `x`. -/
def xhK (fx : XC F) (h : Fin 2) (k : ℕ) : Vec F S1024x512 .bf16 := (xV.view.slice (xhRect (xhOff h k) (xhOff_in h k))).read (Elt F) (xCast fx)

/-- A block product at a block of `w` in its own shape. -/
def prodQ (wv : Vec F S512x1024 .f32) (xv : Vec F S1024x512 .bf16) : FVec F S1024x1024 .f32 :=
  matmul dot_S1024x512_S512x1024_S1024x1024_1_0_0_1_n_n none xv (truncf .bf16 wv bitsLt_bf16_f32) (constant S1024x1024 .f32 0x00000000#32)

/-- Half `h` of the accumulator of column `j` after blocks `0` to `n`. -/
def accQ (fx : XC F) (fw : WC F) (j : ℕ) : ℕ → Fin 2 → FVec F S1024x1024 .f32
  | 0, h => prodQ (wK fw 0 j) (xhK fx h 0)
  | n + 1, h => addf (accQ fx fw j n h) (prodQ (wK fw (n + 1) j) (xhK fx h (n + 1)))

/-- Half `h` of the activated column `j`. -/
def siluK (fx : XC F) (fw : WC F) (j : ℕ) (h : Fin 2) : FVec F S1x1024x1024 .bf16 := siluP (accQ fx fw j 15 h)

/-- The slots' contents assembled: column `j` of a device's result, row by row. -/
def outV (fx : XC F) (fw : WC F) (j : ℕ) : Vec F S2048x1024 .bf16 := fun i =>
  siluK fx fw j ⟨(i 0).val / 1024, by have := (i 0).isLt; change _ < 2048 at this; omega⟩
    (fun a => match a with
      | ⟨0, _⟩ => (⟨0, by decide⟩ : Fin 1)
      | ⟨1, _⟩ => (⟨(i 0).val % 1024, Nat.mod_lt _ (by decide)⟩ : Fin 1024)
      | ⟨2, _⟩ => (⟨(i 1).val, (i 1).isLt⟩ : Fin 1024))

/-! ## The states of the buffers of device `c` -/

section States
variable (c : Dev nD)

abbrev xTok (q : PosShare TreeShare) (fx : XC F) : sProp 𝕄 := (xH.view.loc (c : Thread nD τ)) ↦{q} fx
abbrev wTok (q : PosShare TreeShare) (fw : WC F) : sProp 𝕄 := (wH.view.loc (c : Thread nD τ)) ↦{q} fw

def wFly (q : PosShare TreeShare) (fw : WC F) (b : Fin 2) (k j : ℕ) : sProp 𝕄 := Fly c (wBlk (wOff k j) (wOff_in k j)) (wSlot b) (wSem b) q fw
def xFly (q : PosShare TreeShare) (fx : XC F) (b : Fin 2) (k : ℕ) : sProp 𝕄 := Fly c (xBlk (xOff k) (xOff_in k)) (xSlot b) (xSem b) q fx

def wAt (b : Fin 2) (V : Vec F S512x1024 .f32) : sProp 𝕄 :=
  iprop(∃ f, ⌜(wSlot b).view.read (Elt F) f = V⌝ ∗ ((wSlot b).view.loc (c : Thread nD τ) ↦[(wSlot b).view.set]{fullShare} f))
def xAt (b : Fin 2) (V : Vec F S2048x512 .f32) : sProp 𝕄 :=
  iprop(∃ f, ⌜(xSlot b).view.read (Elt F) f = V⌝ ∗ ((xSlot b).view.loc (c : Thread nD τ) ↦[(xSlot b).view.set]{fullShare} f))
/-- Send slot `b`, a half of it by each value of `V`. -/
def sAt (b : Fin 2) (V : Fin 2 → Vec F S1x1024x1024 .bf16) : sProp 𝕄 :=
  iprop(∃ f, ⌜∀ h, (sB.view.slice (shRect b h)).read (Elt F) f = V h⌝ ∗ ((sSlot b).view.loc (c : Thread nD τ) ↦[(sSlot b).view.set]{fullShare} f))

/-- A slot with its semaphore at zero and its share of the array. -/
def wGot (q : PosShare TreeShare) (fw : WC F) (b : Fin 2) (V : Vec F S512x1024 .f32) : sProp 𝕄 :=
  iprop(wAt c b V ∗ semVal ((c : Thread nD τ), .dma (wSem b)) 0 ∗ wTok c q fw)
def xGot (q : PosShare TreeShare) (fx : XC F) (b : Fin 2) (V : Vec F S2048x512 .f32) : sProp 𝕄 :=
  iprop(xAt c b V ∗ semVal ((c : Thread nD τ), .dma (xSem b)) 0 ∗ xTok c q fx)

/-- A slot while blocks remain: block `k` in flight; after the last, free. -/
def wSt (q : PosShare TreeShare) (fw : WC F) (b : Fin 2) (k j : ℕ) : sProp 𝕄 :=
  if k < 16 then wFly c q fw b k j else iprop(∃ V, wGot c q fw b V)
def xSt (q : PosShare TreeShare) (fx : XC F) (b : Fin 2) (k : ℕ) : sProp 𝕄 :=
  if k < 16 then xFly c q fx b k else iprop(∃ V, xGot c q fx b V)

def accAt (fx : XC F) (fw : WC F) (j n : ℕ) : sProp 𝕄 :=
  iprop(∃ f, ⌜∀ h, (aV.view.slice (aRect h)).read (Elt F) f = accQ fx fw j n h⌝ ∗ (aV.view.loc (c : Thread nD τ) ↦{fullShare} f))
def accAny : sProp 𝕄 := iprop(∃ f, (aV.view.loc (c : Thread nD τ) ↦{fullShare} (f : Buf (Elt F) (aV.view.loc (c : Thread nD τ)))))

/-- The first `n` blocks of `x` converted. -/
def xvAt (fx : XC F) (n : ℕ) : sProp 𝕄 :=
  iprop(∃ g : (cc0_scratch0 : Ref sig .tc).ty.Contents (Elt F), ⌜∀ i : S2048x8192.Idx, (i 1).val < 512 * n → g i = xCast fx i⌝ ∗ (xV.view.loc (c : Thread nD τ) ↦{fullShare} g))

/-- The local copies' waits are admissible under what the device owes. -/
def mayLocal (O : CellTallies nD τ sig Unit) : sProp 𝕄 :=
  iprop((∀ b, MayWait (c : Thread nD τ) (.dma (wSem b)) () O) ∗ (∀ b, MayWait (c : Thread nD τ) (.dma (xSem b)) () O))

instance mayLocal_persistent (O : CellTallies nD τ sig Unit) : BI.Persistent (mayLocal (F := F) c O) := by unfold mayLocal; infer_instance

end States

end Cert.KernelProof

end
-- ==== Proof.StepWp.lean ====
/- One rule per step of the kernel. -/
module

public import proofs.«01_k».proof.Proof.Spec

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Rules
variable (c : Dev nD) {q : PosShare TreeShare} {fx : XC F} {fw : WC F} {O : CellTallies nD τ sig Unit}

/-- A load of a block of `w` is started. -/
theorem wEnq_wp {α : Type} {kk : PUnit → KProg F α} {Q : α → sProp 𝕄} {b : Fin 2} {V : Vec F S512x1024 .f32} {o : Fin 2 → ℕ} {ho : InB o S512x1024.size S8192x4096.size} (k j : ℕ) (e : o = wOff k j) :
    wGot c q fw b V ⊢ iprop((wFly c q fw b k j -∗ WP c (kk ⟨⟩) Q) -∗ WP c (wEnq b o ho >>= kk) Q) := by
  subst e
  unfold wGot wAt wFly wEnq
  iintro ⟨⟨%f, %hf, Hd⟩, Hv, Ht⟩ Hk
  iapply (enq_rule c (wBlk (wOff k j) (wOff_in k j)) (wSlot b) (wSem b) (by decide) q fw f) $$ [Hd Hv Ht]
  · isplitl [Ht]; · iexact Ht
    isplitl [Hd]; · iexact Hd
    iexact Hv
  iexact Hk

/-- A load of a block of `x` is started. -/
theorem xEnq_wp {α : Type} {kk : PUnit → KProg F α} {Q : α → sProp 𝕄} {b : Fin 2} {V : Vec F S2048x512 .f32} {o : Fin 2 → ℕ} {ho : InB o S2048x512.size S2048x8192.size} (k : ℕ) (e : o = xOff k) :
    xGot c q fx b V ⊢ iprop((xFly c q fx b k -∗ WP c (kk ⟨⟩) Q) -∗ WP c (xEnq b o ho >>= kk) Q) := by
  subst e
  unfold xGot xAt xFly xEnq
  iintro ⟨⟨%f, %hf, Hd⟩, Hv, Ht⟩ Hk
  iapply (enq_rule c (xBlk (xOff k) (xOff_in k)) (xSlot b) (xSem b) (by decide) q fx f) $$ [Hd Hv Ht]
  · isplitl [Ht]; · iexact Ht
    isplitl [Hd]; · iexact Hd
    iexact Hv
  iexact Hk

/-- The wait for a block of `w`. -/
theorem wWait_wp {α : Type} {kk : PUnit → KProg F α} {Q : α → sProp 𝕄} {b : Fin 2} {o : Fin 2 → ℕ} {ho : InB o S512x1024.size S8192x4096.size} (k j : ℕ) :
    iprop(wFly c q fw b k j ∗ owesSome c O ∗ mayLocal c O)
      ⊢ iprop((wGot c q fw b (wK fw k j) ∗ owesSome c O -∗ WP c (kk ⟨⟩) Q) -∗ WP c (wWait b o ho >>= kk) Q) := by
  unfold wGot wAt wFly wWait mayLocal
  iintro ⟨Hf, HO, #HM, -⟩ Hk
  iapply (wait_rule c (wBlk (wOff k j) (wOff_in k j)) (wBlk o ho) (wSlot b) (wSem b) q fw O) $$ [Hf HO]
  · isplitl [Hf]; · iexact Hf
    isplitl [HO]; · iexact HO
    iapply HM
  iintro ⟨Hd, Hv, Ht, HO⟩
  iapply Hk
  isplitr [HO]
  · isplitl [Hd]; · iexact Hd
    isplitl [Hv]; · iexact Hv
    iexact Ht
  iexact HO

/-- The wait for a block of `x`. -/
theorem xWait_wp {α : Type} {kk : PUnit → KProg F α} {Q : α → sProp 𝕄} {b : Fin 2} {o : Fin 2 → ℕ} {ho : InB o S2048x512.size S2048x8192.size} (k : ℕ) :
    iprop(xFly c q fx b k ∗ owesSome c O ∗ mayLocal c O)
      ⊢ iprop((xGot c q fx b (xK fx k) ∗ owesSome c O -∗ WP c (kk ⟨⟩) Q) -∗ WP c (xWait b o ho >>= kk) Q) := by
  unfold xGot xAt xFly xWait mayLocal
  iintro ⟨Hf, HO, -, #HM⟩ Hk
  iapply (wait_rule c (xBlk (xOff k) (xOff_in k)) (xBlk o ho) (xSlot b) (xSem b) q fx O) $$ [Hf HO]
  · isplitl [Hf]; · iexact Hf
    isplitl [HO]; · iexact HO
    iapply HM
  iintro ⟨Hd, Hv, Ht, HO⟩
  iapply Hk
  isplitr [HO]
  · isplitl [Hd]; · iexact Hd
    isplitl [Hv]; · iexact Hv
    iexact Ht
  iexact HO

/-- A load of `w` under a condition. -/
theorem wPre_wp {α : Type} {kk : PUnit → KProg F α} {Q : α → sProp 𝕄} {b : Fin 2} {V : Vec F S512x1024 .f32} {p : Prop} [Decidable p] {o : Fin 2 → ℕ} {ho : p → InB o S512x1024.size S8192x4096.size}
    (k j : ℕ) (hp : p ↔ k < 16) (e : p → o = wOff k j) :
    wGot c q fw b V ⊢ iprop((wSt c q fw b k j -∗ WP c (kk ⟨⟩) Q) -∗ WP c (wPre p b o ho >>= kk) Q) := by
  unfold wPre wSt
  by_cases h : p
  · rw [dif_pos h, if_pos (hp.mp h)]; exact wEnq_wp c k j (e h)
  · rw [dif_neg h, if_neg (fun h' => h (hp.mpr h'))]
    iintro H Hk
    iapply Hk
    iexists V; iexact H

/-- A load of `x` under a condition. -/
theorem xPre_wp {α : Type} {kk : PUnit → KProg F α} {Q : α → sProp 𝕄} {b : Fin 2} {V : Vec F S2048x512 .f32} {p : Prop} [Decidable p] {o : Fin 2 → ℕ} {ho : p → InB o S2048x512.size S2048x8192.size}
    (k : ℕ) (hp : p ↔ k < 16) (e : p → o = xOff k) :
    xGot c q fx b V ⊢ iprop((xSt c q fx b k -∗ WP c (kk ⟨⟩) Q) -∗ WP c (xPre p b o ho >>= kk) Q) := by
  unfold xPre xSt
  by_cases h : p
  · rw [dif_pos h, if_pos (hp.mp h)]; exact xEnq_wp c k (e h)
  · rw [dif_neg h, if_neg (fun h' => h (hp.mpr h'))]
    iintro H Hk
    iapply Hk
    iexists V; iexact H

end Rules

/-! ## Reading and writing the buffers -/

/-- The elements of a slot. -/
theorem wSlot_set (b : Fin 2) : (wSlot b).view.set = (wB.view.slice (wsRect b)).set := View.set_reshape _ _
theorem xSlot_set (b : Fin 2) : (xSlot b).view.set = (xB.view.slice (xsRect b)).set := View.set_reshape _ _

/-- A load from a part of a buffer reads that part alone. -/
theorem setOn_sub {s : Shape} {e : EltTy} (M : Memref sig .tc .vmem s e) (r : Rect s) : M.view.setOn r.toLoadRect.set ⊆ (M.view.slice r).set := by
  rw [View.set_slice]; exact Finset.Subset.refl _

/-- Half a block of the converted `x`, read once it is there. -/
theorem xh_read (fx : XC F) (n k : ℕ) (h : Fin 2) (hk : k < n) (hn : n ≤ 16) (g : (cc0_scratch0 : Ref sig .tc).ty.Contents (Elt F))
    (hg : ∀ i : S2048x8192.Idx, (i 1).val < 512 * n → g i = xCast fx i) :
    xV.view.readAt (Elt F) (xhRect (xhOff h k) (xhOff_in h k)).toLoadRect g = xhK fx h k := by
  unfold xhK
  rw [View.readAt_rect]
  refine View.read_congr fun i hi => hg i ?_
  obtain ⟨x, -, rfl⟩ := Finset.mem_map.mp hi
  show 512 * (k % 16) + 1 * (x 1).val < 512 * n
  have h1 : (x 1).val < 512 := (x 1).isLt
  omega

section Rules
variable (c : Dev nD) {q : PosShare TreeShare} {fx : XC F} {fw : WC F} {O : CellTallies nD τ sig Unit}

/-- A slot's contents, converted. -/
theorem cast_read (b : Fin 2) (f : (cc0_scratch1 : Ref sig .tc).ty.Contents (Elt F)) :
    castP (xB.view.readAt (Elt F) (xsRect b).toLoadRect f) = truncf .bf16 ((xSlot b).view.read (Elt F) f) bitsLt_bf16_f32 := by
  unfold castP
  rw [shapeCast_self]
  rfl

/-- A block of `x` is converted. -/
theorem castStep_wp {α : Type} {kk : PUnit → KProg F α} {Q : α → sProp 𝕄} {b : Fin 2} {o : Fin 2 → ℕ} {ho : InB o S2048x512.size S2048x8192.size} {hp : (xRect o ho).PackedRows (EltTy.packing .bf16)}
    (n : ℕ) (hn : n < 16) (e : o = xOff n) :
    iprop(xGot c q fx b (xK fx n) ∗ xvAt c fx n)
      ⊢ iprop((xGot c q fx b (xK fx n) ∗ xvAt c fx (n + 1) -∗ WP c (kk ⟨⟩) Q) -∗ WP c (castStep b o ho hp >>= kk) Q) := by
  subst e
  unfold castStep xGot xAt xvAt
  simp only [Prog.lift, Prog.bind_op, Prog.bind_ret]
  iintro ⟨⟨⟨%f, %hf, Hd⟩, Hv, Ht⟩, %g, %hg, Hx⟩ Hk
  iapply (wp_load 𝒱₀ (c : Thread nD τ) none Set.univ (m := xB) (r := (xsRect b).toLoadRect) (S := (xSlot b).view.set) (f := f) (by rw [xSlot_set]; exact setOn_sub xB _)) $$ Hd
  iintro Hd
  iapply (wp_load 𝒱₀ (c : Thread nD τ) none Set.univ (m := xV) (Finset.subset_univ _)) $$ Hx
  iintro Hx
  iapply (wp_store 𝒱₀ (c : Thread nD τ) none Set.univ (m := xV) (r := xRect (xOff n) ho) (Mk := Finset.univ) (S := Finset.univ) (f := g) (Finset.subset_univ _)) $$ Hx
  iintro Hx
  iapply Hk
  isplitr [Hx]
  · isplitl [Hd]
    · iexists f
      isplitr; · ipureintro; exact hf
      iexact Hd
    isplitl [Hv] <;> iassumption
  · iexists _
    isplitr
    pick_goal 2
    · iexact Hx
    ipureintro
    intro i hi
    rw [cast_read, hf]
    by_cases hi' : i ∈ (xV.access (xRect (xOff n) ho)).set
    · obtain ⟨x, -, rfl⟩ := Finset.mem_map.mp hi'
      rw [View.write_emb_of_mem _ _ (Finset.mem_univ x)]
      rfl
    · rw [View.write_of_not_mem _ _ _ (by rw [View.setOn_univ]; exact hi')]
      refine hg i ?_
      by_contra hlt
      apply hi'
      refine Finset.mem_map.mpr ⟨fun a => match a with
        | ⟨0, _⟩ => (⟨(i 0).val, (i 0).isLt⟩ : Fin 2048)
        | ⟨1, _⟩ => (⟨(i 1).val - 512 * n, by omega⟩ : Fin 512), Finset.mem_univ _, ?_⟩
      funext a
      apply Fin.ext
      fin_cases a
      · show 0 + 1 * (i 0).val = (i 0).val; omega
      · show 512 * (n % 16) + 1 * ((i 1).val - 512 * n) = (i 1).val; omega

/-- The products and sums that are stored, from the slot's contents. -/
theorem prod_read (b : Fin 2) (f : (cc0_scratch2 : Ref sig .tc).ty.Contents (Elt F)) (xv : Vec F S1024x512 .bf16) :
    prodP (wB.view.readAt (Elt F) (wsRect b).toLoadRect f) xv = prodQ ((wSlot b).view.read (Elt F) f) xv := rfl
theorem set_read (b : Fin 2) (f : (cc0_scratch2 : Ref sig .tc).ty.Contents (Elt F)) (xv : Vec F S1024x512 .bf16) :
    setP (wB.view.readAt (Elt F) (wsRect b).toLoadRect f) xv = prodQ ((wSlot b).view.read (Elt F) f) xv := by
  unfold setP; rw [shapeCast_self, prod_read]
theorem add_read (b : Fin 2) (f : (cc0_scratch2 : Ref sig .tc).ty.Contents (Elt F)) (xv : Vec F S1024x512 .bf16) (av : Vec F S1024x1024 .f32) :
    addP (wB.view.readAt (Elt F) (wsRect b).toLoadRect f) xv av = addf av (prodQ ((wSlot b).view.read (Elt F) f) xv) := by
  unfold addP; rw [shapeCast_self, prod_read]

omit [FloatOps F] in
/-- The halves of the accumulator are disjoint. -/
theorem halves_disj {h h' : Fin 2} (hh : h ≠ h') : Disjoint (aV.view.slice (aRect h)).set ((aV.view.slice (aRect h')).setOn Finset.univ) := by
  rw [Finset.disjoint_left]
  intro i hi hi'
  obtain ⟨x, -, rfl⟩ := Finset.mem_map.mp hi
  obtain ⟨y, -, hy⟩ := Finset.mem_map.mp hi'
  have h0 : 1024 * h'.val + 1 * (y 0).val = 1024 * h.val + 1 * (x 0).val := congrArg (fun i : S2048x1024.Idx => (i 0).val) hy
  have hx : (x 0).val < 1024 := (x 0).isLt
  have hy' : (y 0).val < 1024 := (y 0).isLt
  exact hh (Fin.ext (by omega))

omit [FloatOps F] in
/-- After both halves are written, each holds what was written there. -/
theorem halves_read (f : (cc0_scratch3 : Ref sig .tc).ty.Contents (Elt F)) (v : Fin 2 → Vec F S1024x1024 .f32) :
    ∀ h, (aV.view.slice (aRect h)).read (Elt F)
      ((aV.access (aRect 1)).write (Elt F) ((aV.access (aRect 0)).write (Elt F) f (v 0) Finset.univ) (v 1) Finset.univ) = v h := by
  intro h
  by_cases e : h = 1
  · subst e; exact View.read_write_univ _ _
  · have e0 : h = 0 := by omega
    subst e0
    exact (View.read_slice_write_slice_of_disjoint (v := aV.view) _ _ _ _ _ (halves_disj (by decide))).trans (View.read_write_univ _ _)

omit [FloatOps F] in
/-- Writing the first half leaves the second. -/
theorem half1_read (f : (cc0_scratch3 : Ref sig .tc).ty.Contents (Elt F)) (v : Vec F S1024x1024 .f32) :
    aV.view.readAt (Elt F) (aRect 1).toLoadRect ((aV.access (aRect 0)).write (Elt F) f v Finset.univ) = aV.view.readAt (Elt F) (aRect 1).toLoadRect f :=
  View.read_slice_write_slice_of_disjoint (v := aV.view) _ _ _ _ _ (halves_disj (by decide))

/-- The first block's product is stored in the accumulator. -/
theorem setStep_wp {α : Type} {kk : PUnit → KProg F α} {Q : α → sProp 𝕄} {b : Fin 2} {o0 o1 : Fin 2 → ℕ}
    {ho0 : InB o0 S1024x512.size S2048x8192.size} {ho1 : InB o1 S1024x512.size S2048x8192.size}
    (j m : ℕ) (hm : 0 < m) (hm' : m ≤ 16) (e0 : o0 = xhOff 0 0) (e1 : o1 = xhOff 1 0) :
    iprop(wGot c q fw b (wK fw 0 j) ∗ xvAt c fx m ∗ accAny c)
      ⊢ iprop((wGot c q fw b (wK fw 0 j) ∗ xvAt c fx m ∗ accAt c fx fw j 0 -∗ WP c (kk ⟨⟩) Q) -∗ WP c (setStep b o0 o1 ho0 ho1 >>= kk) Q) := by
  subst e0 e1
  unfold setStep wLoad xLoad aLoad aStore wGot wAt xvAt accAt accAny
  simp only [Prog.lift, Prog.bind_op, Prog.bind_ret]
  iintro ⟨⟨⟨%f, %hf, Hd⟩, Hv, Ht⟩, ⟨%g, %hg, Hx⟩, %a, Ha⟩ Hk
  iapply (wp_load 𝒱₀ (c : Thread nD τ) none Set.univ (m := wB) (r := (wsRect b).toLoadRect) (S := (wSlot b).view.set) (f := f) (by rw [wSlot_set]; exact setOn_sub wB _)) $$ Hd
  iintro Hd
  iapply (wp_load 𝒱₀ (c : Thread nD τ) none Set.univ (m := xV) (Finset.subset_univ _)) $$ Hx
  iintro Hx
  iapply (wp_load 𝒱₀ (c : Thread nD τ) none Set.univ (m := aV) (Finset.subset_univ _)) $$ Ha
  iintro Ha
  iapply (wp_store 𝒱₀ (c : Thread nD τ) none Set.univ (m := aV) (r := aRect 0) (Mk := Finset.univ) (S := Finset.univ) (f := a) (Finset.subset_univ _)) $$ Ha
  iintro Ha
  iapply (wp_load 𝒱₀ (c : Thread nD τ) none Set.univ (m := xV) (Finset.subset_univ _)) $$ Hx
  iintro Hx
  iapply (wp_load 𝒱₀ (c : Thread nD τ) none Set.univ (m := aV) (Finset.subset_univ _)) $$ Ha
  iintro Ha
  rw [xh_read fx m 0 0 hm hm' g hg, xh_read fx m 0 1 hm hm' g hg, set_read, set_read, hf]
  iapply (wp_store 𝒱₀ (c : Thread nD τ) none Set.univ (m := aV) (r := aRect 1) (Mk := Finset.univ) (S := Finset.univ) (Finset.subset_univ _)) $$ Ha
  iintro Ha
  iapply Hk
  isplitl [Hd Hv Ht]
  · isplitl [Hd]
    · iexists f
      isplitr; · ipureintro; exact hf
      iexact Hd
    isplitl [Hv] <;> iassumption
  isplitl [Hx]
  · iexists g
    isplitr; · ipureintro; exact hg
    iexact Hx
  iexists _
  isplitr
  pick_goal 2
  · iexact Ha
  ipureintro
  exact halves_read a (fun h => prodQ (wK fw 0 j) (xhK fx h 0))

/-- A later block's product is added to it. -/
theorem addStep_wp {α : Type} {kk : PUnit → KProg F α} {Q : α → sProp 𝕄} {b : Fin 2} {o0 o1 : Fin 2 → ℕ}
    {ho0 : InB o0 S1024x512.size S2048x8192.size} {ho1 : InB o1 S1024x512.size S2048x8192.size}
    (j n m : ℕ) (hm : n + 1 < m) (hm' : m ≤ 16) (e0 : o0 = xhOff 0 (n + 1)) (e1 : o1 = xhOff 1 (n + 1)) :
    iprop(wGot c q fw b (wK fw (n + 1) j) ∗ xvAt c fx m ∗ accAt c fx fw j n)
      ⊢ iprop((wGot c q fw b (wK fw (n + 1) j) ∗ xvAt c fx m ∗ accAt c fx fw j (n + 1) -∗ WP c (kk ⟨⟩) Q) -∗ WP c (addStep b o0 o1 ho0 ho1 >>= kk) Q) := by
  subst e0 e1
  unfold addStep wLoad xLoad aLoad aStore wGot wAt xvAt accAt
  simp only [Prog.lift, Prog.bind_op, Prog.bind_ret]
  iintro ⟨⟨⟨%f, %hf, Hd⟩, Hv, Ht⟩, ⟨%g, %hg, Hx⟩, %a, %ha, Ha⟩ Hk
  have ha0 : aV.view.readAt (Elt F) (aRect 0).toLoadRect a = accQ fx fw j n 0 := ha 0
  have ha1 : aV.view.readAt (Elt F) (aRect 1).toLoadRect a = accQ fx fw j n 1 := ha 1
  iapply (wp_load 𝒱₀ (c : Thread nD τ) none Set.univ (m := wB) (r := (wsRect b).toLoadRect) (S := (wSlot b).view.set) (f := f) (by rw [wSlot_set]; exact setOn_sub wB _)) $$ Hd
  iintro Hd
  iapply (wp_load 𝒱₀ (c : Thread nD τ) none Set.univ (m := xV) (Finset.subset_univ _)) $$ Hx
  iintro Hx
  iapply (wp_load 𝒱₀ (c : Thread nD τ) none Set.univ (m := aV) (Finset.subset_univ _)) $$ Ha
  iintro Ha
  iapply (wp_load 𝒱₀ (c : Thread nD τ) none Set.univ (m := aV) (Finset.subset_univ _)) $$ Ha
  iintro Ha
  iapply (wp_store 𝒱₀ (c : Thread nD τ) none Set.univ (m := aV) (r := aRect 0) (Mk := Finset.univ) (S := Finset.univ) (f := a) (Finset.subset_univ _)) $$ Ha
  iintro Ha
  iapply (wp_load 𝒱₀ (c : Thread nD τ) none Set.univ (m := xV) (Finset.subset_univ _)) $$ Hx
  iintro Hx
  iapply (wp_load 𝒱₀ (c : Thread nD τ) none Set.univ (m := aV) (Finset.subset_univ _)) $$ Ha
  iintro Ha
  iapply (wp_load 𝒱₀ (c : Thread nD τ) none Set.univ (m := aV) (Finset.subset_univ _)) $$ Ha
  iintro Ha
  rw [xh_read fx m (n + 1) 0 hm hm' g hg, xh_read fx m (n + 1) 1 hm hm' g hg, half1_read, ha0, ha1, add_read, add_read, hf]
  iapply (wp_store 𝒱₀ (c : Thread nD τ) none Set.univ (m := aV) (r := aRect 1) (Mk := Finset.univ) (S := Finset.univ) (Finset.subset_univ _)) $$ Ha
  iintro Ha
  iapply Hk
  isplitl [Hd Hv Ht]
  · isplitl [Hd]
    · iexists f
      isplitr; · ipureintro; exact hf
      iexact Hd
    isplitl [Hv] <;> iassumption
  isplitl [Hx]
  · iexists g
    isplitr; · ipureintro; exact hg
    iexact Hx
  iexists _
  isplitr
  pick_goal 2
  · iexact Ha
  ipureintro
  exact halves_read a (fun h => addf (accQ fx fw j n h) (prodQ (wK fw (n + 1) j) (xhK fx h (n + 1))))

/-! The activation. -/

/-- The elements of a send slot. -/
theorem sSlot_set (b : Fin 2) : (sSlot b).view.set = (sB.view.slice (Rect.unit (s := S2x2048x1024) ![b.val, 0, 0] S1x2048x1024.size (inbS b))).set := View.set_reshape _ _

omit [FloatOps F] in
/-- Its halves lie in it. -/
theorem sh_sub (b h : Fin 2) : (sB.view.slice (shRect b h)).set ⊆ (sSlot b).view.set := by
  rw [sSlot_set]
  intro i hi
  obtain ⟨x, -, rfl⟩ := Finset.mem_map.mp hi
  refine Finset.mem_map.mpr ⟨fun a => match a with
    | ⟨0, _⟩ => (⟨0, by decide⟩ : Fin 1)
    | ⟨1, _⟩ => (⟨1024 * h.val + (x 1).val, by have : (x 1).val < 1024 := (x 1).isLt; omega⟩ : Fin 2048)
    | ⟨2, _⟩ => (⟨(x 2).val, (x 2).isLt⟩ : Fin 1024), Finset.mem_univ _, ?_⟩
  have h0 : (x 0).val < 1 := (x 0).isLt
  funext a
  apply Fin.ext
  fin_cases a
  · show b.val + 1 * 0 = b.val + 1 * (x 0).val; omega
  · show 0 + 1 * (1024 * h.val + (x 1).val) = 1024 * h.val + 1 * (x 1).val; omega
  · show 0 + 1 * (x 2).val = 0 + 1 * (x 2).val; rfl

omit [FloatOps F] in
/-- They are disjoint. -/
theorem sh_disj (b : Fin 2) {h h' : Fin 2} (hh : h ≠ h') : Disjoint (sB.view.slice (shRect b h)).set ((sB.view.slice (shRect b h')).setOn Finset.univ) := by
  rw [Finset.disjoint_left]
  intro i hi hi'
  obtain ⟨x, -, rfl⟩ := Finset.mem_map.mp hi
  obtain ⟨y, -, hy⟩ := Finset.mem_map.mp hi'
  have h0 : 1024 * h'.val + 1 * (y 1).val = 1024 * h.val + 1 * (x 1).val := congrArg (fun i : S2x2048x1024.Idx => (i 1).val) hy
  have hx : (x 1).val < 1024 := (x 1).isLt
  have hy' : (y 1).val < 1024 := (y 1).isLt
  exact hh (Fin.ext (by omega))

omit [FloatOps F] in
/-- After both are written, each holds what was written there. -/
theorem sh_read (b : Fin 2) (f : (cc0_scratch4 : Ref sig .tc).ty.Contents (Elt F)) (v : Fin 2 → Vec F S1x1024x1024 .bf16) :
    ∀ h, (sB.view.slice (shRect b h)).read (Elt F)
      ((sB.access (shRect b 1)).write (Elt F) ((sB.access (shRect b 0)).write (Elt F) f (v 0) Finset.univ) (v 1) Finset.univ) = v h := by
  intro h
  by_cases e : h = 1
  · subst e; exact View.read_write_univ _ _
  · have e0 : h = 0 := by omega
    subst e0
    exact (View.read_slice_write_slice_of_disjoint (v := sB.view) _ _ _ _ _ (sh_disj b (by decide))).trans (View.read_write_univ _ _)

/-- The activation of the accumulator is stored in a send slot. -/
theorem siluStep_wp {α : Type} {kk : PUnit → KProg F α} {Q : α → sProp 𝕄} {b : Fin 2} {f : Buf (Elt F) ((sSlot b).view.loc (c : Thread nD τ))} (j : ℕ) :
    iprop(((sSlot b).view.loc (c : Thread nD τ) ↦[(sSlot b).view.set]{fullShare} f) ∗ accAt c fx fw j 15)
      ⊢ iprop((sAt c b (siluK fx fw j) ∗ accAny c -∗ WP c (kk ⟨⟩) Q) -∗ WP c (siluStep b >>= kk) Q) := by
  unfold siluStep siluHalf aLoad accAt accAny sAt
  simp only [Prog.lift, Prog.bind_op, Prog.bind_ret]
  iintro ⟨Hd, %a, %ha, Ha⟩ Hk
  have ha0 : aV.view.readAt (Elt F) (aRect 0).toLoadRect a = accQ fx fw j 15 0 := ha 0
  have ha1 : aV.view.readAt (Elt F) (aRect 1).toLoadRect a = accQ fx fw j 15 1 := ha 1
  iapply (wp_load 𝒱₀ (c : Thread nD τ) none Set.univ (m := aV) (Finset.subset_univ _)) $$ Ha
  iintro Ha
  iapply (wp_load 𝒱₀ (c : Thread nD τ) none Set.univ (m := sB) (r := (shRect b 0).toLoadRect) (S := (sSlot b).view.set) (f := f) ((setOn_sub sB _).trans (sh_sub b 0))) $$ Hd
  iintro Hd
  iapply (wp_store 𝒱₀ (c : Thread nD τ) none Set.univ (m := sB) (r := shRect b 0) (Mk := Finset.univ) (S := (sSlot b).view.set) (f := f) (sh_sub b 0)) $$ Hd
  iintro Hd
  iapply (wp_load 𝒱₀ (c : Thread nD τ) none Set.univ (m := aV) (Finset.subset_univ _)) $$ Ha
  iintro Ha
  iapply (wp_load 𝒱₀ (c : Thread nD τ) none Set.univ (m := sB) (r := (shRect b 1).toLoadRect) (S := (sSlot b).view.set) ((setOn_sub sB _).trans (sh_sub b 1))) $$ Hd
  iintro Hd
  iapply (wp_store 𝒱₀ (c : Thread nD τ) none Set.univ (m := sB) (r := shRect b 1) (Mk := Finset.univ) (S := (sSlot b).view.set) (sh_sub b 1)) $$ Hd
  iintro Hd
  rw [ha0, ha1]
  iapply Hk
  isplitl [Hd]
  · iexists _
    isplitr
    pick_goal 2
    · iexact Hd
    ipureintro
    exact sh_read b f (siluK fx fw j)
  · iexists a; iexact Ha

end Rules

end Cert.KernelProof

end
-- ==== Proof.Cols.lean ====
/- The columns' programs: the two blocks before a loop, a trip, a loop. -/
module

public import proofs.«01_k».proof.Proof.StepWp

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The device `r + 1` places after `c`: the one whose columns `c` computes `r`-th. -/
def fwd (r : Fin 3) (c : Dev nD) : Dev nD := ⟨(c.val + r.val + 1) % 4, Nat.mod_lt _ (by decide)⟩
/-- The device `r + 1` places before `c`. -/
def bwd (r : Fin 3) (c : Dev nD) : Dev nD := ⟨(c.val + 3 - r.val) % 4, Nat.mod_lt _ (by decide)⟩

/-! ## The printed offsets -/

/-- The offsets that the program prints, as blocks of `w` and of `x`: in a trip, blocks `2 t + 2` and `2 t + 3` are
    multiplied and blocks `2 t + 4` and `2 t + 5` are loaded. -/
theorem off1_eq : ∀ (c : Dev nD) (r : Fin 3), k0_off1 c (BitVec.ofNat 32 (r.val + 1)) = wOff 0 (fwd r c).val := by decide +kernel
theorem off2_eq : ∀ (c : Dev nD) (r : Fin 3), k0_off2 c (BitVec.ofNat 32 (r.val + 1)) = wOff 1 (fwd r c).val := by decide +kernel
theorem off3_eq : ∀ (c : Dev nD) (r : Fin 3), k0_off3 c (BitVec.ofNat 32 (r.val + 1)) = wOff 2 (fwd r c).val := by decide +kernel
theorem off4_eq : ∀ (c : Dev nD) (r : Fin 3), k0_off4 c (BitVec.ofNat 32 (r.val + 1)) = wOff 3 (fwd r c).val := by decide +kernel
theorem off6_eq : ∀ (t : Fin k0_t1_loop.trips) (r : Fin 2), k0_off6 t (BitVec.ofNat 32 r.val) = xOff (2 * t.val + 2 + r.val) := by decide +kernel
theorem off7_eq : ∀ (t : Fin k0_t1_loop.trips), k0_cond1 t = 1#1 → k0_off7 t = xOff (2 * t.val + 4) := by decide +kernel
theorem off12_eq : ∀ (t : Fin k0_t1_loop.trips), k0_cond3 t = 1#1 → k0_off12 t = xOff (2 * t.val + 5) := by decide +kernel
theorem off9_eq : ∀ (t : Fin k0_t1_loop.trips) (r : Fin 2), k0_off9 t (BitVec.ofNat 32 r.val) = xhOff 0 (2 * t.val + 1 + r.val + 1) := by decide +kernel
theorem off10_eq : ∀ (t : Fin k0_t1_loop.trips) (r : Fin 2), k0_off10 t (BitVec.ofNat 32 r.val) = xhOff 1 (2 * t.val + 1 + r.val + 1) := by decide +kernel
theorem off16_eq : ∀ (t : Fin k0_t2_loop.trips) (r : Fin 2), k0_off16 t (BitVec.ofNat 32 r.val) = xhOff 0 (2 * t.val + 1 + r.val + 1) := by decide +kernel
theorem off17_eq : ∀ (t : Fin k0_t2_loop.trips) (r : Fin 2), k0_off17 t (BitVec.ofNat 32 r.val) = xhOff 1 (2 * t.val + 1 + r.val + 1) := by decide +kernel
theorem off21_eq : ∀ (t : Fin k0_t3_loop.trips) (r : Fin 2), k0_off21 t (BitVec.ofNat 32 r.val) = xhOff 0 (2 * t.val + 1 + r.val + 1) := by decide +kernel
theorem off22_eq : ∀ (t : Fin k0_t3_loop.trips) (r : Fin 2), k0_off22 t (BitVec.ofNat 32 r.val) = xhOff 1 (2 * t.val + 1 + r.val + 1) := by decide +kernel
theorem off30_eq : ∀ (t : Fin k0_t4_loop.trips) (r : Fin 2), k0_off30 t (BitVec.ofNat 32 r.val) = xhOff 0 (2 * t.val + 1 + r.val + 1) := by decide +kernel
theorem off31_eq : ∀ (t : Fin k0_t4_loop.trips) (r : Fin 2), k0_off31 t (BitVec.ofNat 32 r.val) = xhOff 1 (2 * t.val + 1 + r.val + 1) := by decide +kernel
theorem off11_eq : ∀ (c : Dev nD) (t : Fin k0_t1_loop.trips), k0_cond2 t = 1#1 → k0_off11 c t = wOff (2 * t.val + 4) (fwd 0 c).val := by decide +kernel
theorem off13_eq : ∀ (c : Dev nD) (t : Fin k0_t1_loop.trips), k0_cond4 t = 1#1 → k0_off13 c t = wOff (2 * t.val + 5) (fwd 0 c).val := by decide +kernel
theorem off18_eq : ∀ (c : Dev nD) (t : Fin k0_t2_loop.trips), k0_cond5 t = 1#1 → k0_off18 c t = wOff (2 * t.val + 4) (fwd 1 c).val := by decide +kernel
theorem off19_eq : ∀ (c : Dev nD) (t : Fin k0_t2_loop.trips), k0_cond6 t = 1#1 → k0_off19 c t = wOff (2 * t.val + 5) (fwd 1 c).val := by decide +kernel
theorem off23_eq : ∀ (c : Dev nD) (t : Fin k0_t3_loop.trips), k0_cond7 t = 1#1 → k0_off23 c t = wOff (2 * t.val + 4) (fwd 2 c).val := by decide +kernel
theorem off24_eq : ∀ (c : Dev nD) (t : Fin k0_t3_loop.trips), k0_cond8 t = 1#1 → k0_off24 c t = wOff (2 * t.val + 5) (fwd 2 c).val := by decide +kernel
theorem off25_eq : ∀ (c : Dev nD), k0_off25 c = wOff 0 c.val := by decide +kernel
theorem off26_eq : ∀ (c : Dev nD), k0_off26 c = wOff 1 c.val := by decide +kernel
theorem off27_eq : ∀ (c : Dev nD), k0_off27 c = wOff 2 c.val := by decide +kernel
theorem off28_eq : ∀ (c : Dev nD), k0_off28 c = wOff 3 c.val := by decide +kernel
theorem off32_eq : ∀ (c : Dev nD) (t : Fin k0_t4_loop.trips), k0_cond9 t = 1#1 → k0_off32 c t = wOff (2 * t.val + 4) c.val := by decide +kernel
theorem off33_eq : ∀ (c : Dev nD) (t : Fin k0_t4_loop.trips), k0_cond10 t = 1#1 → k0_off33 c t = wOff (2 * t.val + 5) c.val := by decide +kernel
/-- Each loop makes seven trips. -/
theorem t1_trips : k0_t1_loop.trips = 7 := by decide +kernel
theorem t2_trips : k0_t2_loop.trips = 7 := by decide +kernel
theorem t3_trips : k0_t3_loop.trips = 7 := by decide +kernel
theorem t4_trips : k0_t4_loop.trips = 7 := by decide +kernel

/-- The literal offsets of the first blocks. -/
theorem xOff_0 : (![0, 0] : Fin 2 → ℕ) = xOff 0 := by decide
theorem xOff_1 : (![0, 512] : Fin 2 → ℕ) = xOff 1 := by decide
theorem xOff_2 : (![0, 1024] : Fin 2 → ℕ) = xOff 2 := by decide
theorem xOff_3 : (![0, 1536] : Fin 2 → ℕ) = xOff 3 := by decide
theorem xhOff_00 : (![0, 0] : Fin 2 → ℕ) = xhOff 0 0 := by decide
theorem xhOff_10 : (![1024, 0] : Fin 2 → ℕ) = xhOff 1 0 := by decide
theorem xhOff_01 : (![0, 512] : Fin 2 → ℕ) = xhOff 0 (0 + 1) := by decide
theorem xhOff_11 : (![1024, 512] : Fin 2 → ℕ) = xhOff 1 (0 + 1) := by decide

section Cols
variable (c : Dev nD) (q0 q1 : PosShare TreeShare) (fx : XC F) (fw : WC F) (O : CellTallies nD τ sig Unit)

/-- Before trip `t` of a loop on column `j`, all of `x` converted. -/
def colI (j t : ℕ) : sProp 𝕄 :=
  iprop(wSt c q0 fw 0 (2 * t + 2) j ∗ wSt c q1 fw 1 (2 * t + 3) j ∗ accAt c fx fw j (2 * t + 1) ∗ xvAt c fx 16 ∗ owesSome c O ∗ mayLocal c O)

/-- Before trip `t` of the first loop, the first `2t + 2` blocks of `x` converted. -/
def colX (j t : ℕ) : sProp 𝕄 :=
  iprop(xSt c q0 fx 0 (2 * t + 2) ∗ xSt c q1 fx 1 (2 * t + 3) ∗ wSt c q0 fw 0 (2 * t + 2) j ∗ wSt c q1 fw 1 (2 * t + 3) j
    ∗ accAt c fx fw j (2 * t + 1) ∗ xvAt c fx (2 * t + 2) ∗ owesSome c O ∗ mayLocal c O)

variable {q0 q1 fx fw O}

/-- A trip of a loop that only loads `w`: two more blocks are in the accumulator. -/
theorem wTrip_wp (j t : ℕ) (ht : t < 7) {w0 w1 : Fin 2 → ℕ} {hw0 : InB w0 S512x1024.size S8192x4096.size} {hw1 : InB w1 S512x1024.size S8192x4096.size}
    {x00 x01 x10 x11 : Fin 2 → ℕ} {hx00 : InB x00 S1024x512.size S2048x8192.size} {hx01 : InB x01 S1024x512.size S2048x8192.size}
    {hx10 : InB x10 S1024x512.size S2048x8192.size} {hx11 : InB x11 S1024x512.size S2048x8192.size}
    {p0 p1 : Prop} [Decidable p0] [Decidable p1] {n0 n1 : Fin 2 → ℕ}
    {hn0 : p0 → InB n0 S512x1024.size S8192x4096.size} {hn1 : p1 → InB n1 S512x1024.size S8192x4096.size}
    (ex00 : x00 = xhOff 0 (2 * t + 1 + 0 + 1)) (ex01 : x01 = xhOff 1 (2 * t + 1 + 0 + 1)) (ex10 : x10 = xhOff 0 (2 * t + 1 + 1 + 1)) (ex11 : x11 = xhOff 1 (2 * t + 1 + 1 + 1))
    (hp0 : p0 ↔ t < 6) (hp1 : p1 ↔ t < 6) (e0 : p0 → n0 = wOff (2 * t + 4) j) (e1 : p1 → n1 = wOff (2 * t + 5) j) :
    colI c q0 q1 fx fw O j t ⊢ WP c (wTrip w0 w1 hw0 hw1 x00 x01 x10 x11 hx00 hx01 hx10 hx11 p0 p1 n0 n1 hn0 hn1) (fun _ => colI c q0 q1 fx fw O j (t + 1)) := by
  have h2 : 2 * t + 2 < 16 := by omega
  have h3 : 2 * t + 3 < 16 := by omega
  unfold colI wTrip
  rw [show wSt c q0 fw 0 (2 * t + 2) j = wFly c q0 fw 0 (2 * t + 2) j from if_pos h2, show wSt c q1 fw 1 (2 * t + 3) j = wFly c q1 fw 1 (2 * t + 3) j from if_pos h3]
  iintro ⟨Hw0, Hw1, Ha, Hx, HO, #HM⟩
  iapply (wWait_wp c (2 * t + 2) j (O := O)) $$ [Hw0 HO]
  · isplitl [Hw0]; · iexact Hw0
    isplitl [HO]; · iexact HO
    iexact HM
  iintro ⟨Hw0, HO⟩
  iapply (addStep_wp c j (2 * t + 1) 16 (by omega) (by omega) ex00 ex01) $$ [Hw0 Hx Ha]
  · isplitl [Hw0]; · iexact Hw0
    isplitl [Hx] <;> iassumption
  iintro ⟨Hw0, Hx, Ha⟩
  iapply (wPre_wp c (2 * t + 4) j (hp0.trans (by omega)) e0) $$ Hw0
  iintro Hw0
  iapply (wWait_wp c (2 * t + 3) j (O := O)) $$ [Hw1 HO]
  · isplitl [Hw1]; · iexact Hw1
    isplitl [HO]; · iexact HO
    iexact HM
  iintro ⟨Hw1, HO⟩
  iapply (addStep_wp c j (2 * t + 1 + 1) 16 (by omega) (by omega) ex10 ex11) $$ [Hw1 Hx Ha]
  · isplitl [Hw1]; · iexact Hw1
    isplitl [Hx] <;> iassumption
  iintro ⟨Hw1, Hx, Ha⟩
  iapply (wPre_wp c (2 * t + 5) j (hp1.trans (by omega)) e1) $$ Hw1
  iintro Hw1
  rw [Prog.pure_eq_ret]
  unfold WP
  rw [wp_ret]
  imodintro
  isplitl [Hw0]; · iexact Hw0
  isplitl [Hw1]; · iexact Hw1
  isplitl [Ha]; · iexact Ha
  isplitl [Hx]; · iexact Hx
  isplitl [HO]; · iexact HO
  iexact HM

/-- A trip of the first loop, which also loads and converts two blocks of `x`. -/
theorem xTrip_wp (j t : ℕ) (ht : t < 7) {w0 w1 : Fin 2 → ℕ} {hw0 : InB w0 S512x1024.size S8192x4096.size} {hw1 : InB w1 S512x1024.size S8192x4096.size}
    {x00 x01 x10 x11 : Fin 2 → ℕ} {hx00 : InB x00 S1024x512.size S2048x8192.size} {hx01 : InB x01 S1024x512.size S2048x8192.size}
    {hx10 : InB x10 S1024x512.size S2048x8192.size} {hx11 : InB x11 S1024x512.size S2048x8192.size}
    {p0 p1 : Prop} [Decidable p0] [Decidable p1] {n0 n1 : Fin 2 → ℕ}
    {hn0 : p0 → InB n0 S512x1024.size S8192x4096.size} {hn1 : p1 → InB n1 S512x1024.size S8192x4096.size}
    {y0 y1 z0 z1 : Fin 2 → ℕ} {hy0 : InB y0 S2048x512.size S2048x8192.size} {hy1 : InB y1 S2048x512.size S2048x8192.size}
    {hz0 : InB z0 S2048x512.size S2048x8192.size} {hz1 : InB z1 S2048x512.size S2048x8192.size}
    {hpk0 : (xRect z0 hz0).PackedRows (EltTy.packing .bf16)} {hpk1 : (xRect z1 hz1).PackedRows (EltTy.packing .bf16)}
    {r0 r1 : Prop} [Decidable r0] [Decidable r1] {m0 m1 : Fin 2 → ℕ}
    {hm0 : r0 → InB m0 S2048x512.size S2048x8192.size} {hm1 : r1 → InB m1 S2048x512.size S2048x8192.size}
    (ex00 : x00 = xhOff 0 (2 * t + 1 + 0 + 1)) (ex01 : x01 = xhOff 1 (2 * t + 1 + 0 + 1)) (ex10 : x10 = xhOff 0 (2 * t + 1 + 1 + 1)) (ex11 : x11 = xhOff 1 (2 * t + 1 + 1 + 1))
    (hp0 : p0 ↔ t < 6) (hp1 : p1 ↔ t < 6) (e0 : p0 → n0 = wOff (2 * t + 4) j) (e1 : p1 → n1 = wOff (2 * t + 5) j)
    (ez0 : z0 = xOff (2 * t + 2 + 0)) (ez1 : z1 = xOff (2 * t + 2 + 1))
    (hr0 : r0 ↔ t < 6) (hr1 : r1 ↔ t < 6) (em0 : r0 → m0 = xOff (2 * t + 4)) (em1 : r1 → m1 = xOff (2 * t + 5)) :
    colX c q0 q1 fx fw O j t ⊢ WP c (xTrip w0 w1 hw0 hw1 x00 x01 x10 x11 hx00 hx01 hx10 hx11 p0 p1 n0 n1 hn0 hn1 y0 y1 z0 z1 hy0 hy1 hz0 hz1 hpk0 hpk1 r0 r1 m0 m1 hm0 hm1)
      (fun _ => colX c q0 q1 fx fw O j (t + 1)) := by
  have h2 : 2 * t + 2 < 16 := by omega
  have h3 : 2 * t + 3 < 16 := by omega
  unfold colX xTrip
  rw [show wSt c q0 fw 0 (2 * t + 2) j = wFly c q0 fw 0 (2 * t + 2) j from if_pos h2, show wSt c q1 fw 1 (2 * t + 3) j = wFly c q1 fw 1 (2 * t + 3) j from if_pos h3,
    show xSt c q0 fx 0 (2 * t + 2) = xFly c q0 fx 0 (2 * t + 2) from if_pos h2, show xSt c q1 fx 1 (2 * t + 3) = xFly c q1 fx 1 (2 * t + 3) from if_pos h3]
  iintro ⟨Hx0, Hx1, Hw0, Hw1, Ha, Hx, HO, #HM⟩
  iapply (xWait_wp c (2 * t + 2) (O := O)) $$ [Hx0 HO]
  · isplitl [Hx0]; · iexact Hx0
    isplitl [HO]; · iexact HO
    iexact HM
  iintro ⟨Hx0, HO⟩
  iapply (castStep_wp c (2 * t + 2) h2 ez0) $$ [Hx0 Hx]
  · isplitl [Hx0] <;> iassumption
  iintro ⟨Hx0, Hx⟩
  iapply (xPre_wp c (2 * t + 4) (hr0.trans (by omega)) em0) $$ Hx0
  iintro Hx0
  iapply (wWait_wp c (2 * t + 2) j (O := O)) $$ [Hw0 HO]
  · isplitl [Hw0]; · iexact Hw0
    isplitl [HO]; · iexact HO
    iexact HM
  iintro ⟨Hw0, HO⟩
  iapply (addStep_wp c j (2 * t + 1) (2 * t + 2 + 1) (by omega) (by omega) ex00 ex01) $$ [Hw0 Hx Ha]
  · isplitl [Hw0]; · iexact Hw0
    isplitl [Hx] <;> iassumption
  iintro ⟨Hw0, Hx, Ha⟩
  iapply (wPre_wp c (2 * t + 4) j (hp0.trans (by omega)) e0) $$ Hw0
  iintro Hw0
  iapply (xWait_wp c (2 * t + 3) (O := O)) $$ [Hx1 HO]
  · isplitl [Hx1]; · iexact Hx1
    isplitl [HO]; · iexact HO
    iexact HM
  iintro ⟨Hx1, HO⟩
  iapply (castStep_wp c (2 * t + 2 + 1) h3 ez1) $$ [Hx1 Hx]
  · isplitl [Hx1] <;> iassumption
  iintro ⟨Hx1, Hx⟩
  iapply (xPre_wp c (2 * t + 5) (hr1.trans (by omega)) em1) $$ Hx1
  iintro Hx1
  iapply (wWait_wp c (2 * t + 3) j (O := O)) $$ [Hw1 HO]
  · isplitl [Hw1]; · iexact Hw1
    isplitl [HO]; · iexact HO
    iexact HM
  iintro ⟨Hw1, HO⟩
  iapply (addStep_wp c j (2 * t + 1 + 1) (2 * t + 2 + 1 + 1) (by omega) (by omega) ex10 ex11) $$ [Hw1 Hx Ha]
  · isplitl [Hw1]; · iexact Hw1
    isplitl [Hx] <;> iassumption
  iintro ⟨Hw1, Hx, Ha⟩
  iapply (wPre_wp c (2 * t + 5) j (hp1.trans (by omega)) e1) $$ Hw1
  iintro Hw1
  rw [Prog.pure_eq_ret]
  unfold WP
  rw [wp_ret]
  imodintro
  isplitl [Hx0]; · iexact Hx0
  isplitl [Hx1]; · iexact Hx1
  isplitl [Hw0]; · iexact Hw0
  isplitl [Hw1]; · iexact Hw1
  isplitl [Ha]; · iexact Ha
  isplitl [Hx]; · iexact Hx
  isplitl [HO]; · iexact HO
  iexact HM

/-- Seven trips that keep the invariant of the first column. -/
theorem colX_loop (j : ℕ) {wd : ℕ} (l : Scf.Loop wd) (hok : l.OK) (hl : l.trips = 7) (body : Fin l.trips → Unit → KProg F Unit)
    (hb : ∀ t u, colX c q0 q1 fx fw O j t.val ⊢ WP c (body t u) (fun _ => colX c q0 q1 fx fw O j (t.val + 1)))
    {α : Type} {kk : Unit → KProg F α} {Q : α → sProp 𝕄} :
    colX c q0 q1 fx fw O j 0 ⊢ iprop((colX c q0 q1 fx fw O j 7 -∗ WP c (kk ⟨⟩) Q) -∗ WP c (Scf.Loop.for l hok ⟨⟩ body >>= kk) Q) := by
  have h := Scf.wp_for_bind (frame (nD := nD) (τ := τ) (sig := sig) (Ix := Unit) (Val := Elt F) (Name := ℕ) (U := UU) (Lvl := ℕ)) (wpE (defs₀ (F := F)) 𝒱₀ (c : Thread nD τ) none) Set.univ
    l.lb l.ub l.st hok ⟨⟩ body (fun t _ => colX c q0 q1 fx fw O j t) hb (kk := kk) (Q := Q)
  refine h.trans ?_
  iintro H Hk
  iapply H
  iintro %u HI
  iapply Hk
  rw [show Scf.trips l.lb l.ub l.st = 7 from hl]
  iexact HI

/-- Seven trips that keep the invariant of a later column. -/
theorem colI_loop (j : ℕ) {wd : ℕ} (l : Scf.Loop wd) (hok : l.OK) (hl : l.trips = 7) (body : Fin l.trips → Unit → KProg F Unit)
    (hb : ∀ t u, colI c q0 q1 fx fw O j t.val ⊢ WP c (body t u) (fun _ => colI c q0 q1 fx fw O j (t.val + 1)))
    {α : Type} {kk : Unit → KProg F α} {Q : α → sProp 𝕄} :
    colI c q0 q1 fx fw O j 0 ⊢ iprop((colI c q0 q1 fx fw O j 7 -∗ WP c (kk ⟨⟩) Q) -∗ WP c (Scf.Loop.for l hok ⟨⟩ body >>= kk) Q) := by
  have h := Scf.wp_for_bind (frame (nD := nD) (τ := τ) (sig := sig) (Ix := Unit) (Val := Elt F) (Name := ℕ) (U := UU) (Lvl := ℕ)) (wpE (defs₀ (F := F)) 𝒱₀ (c : Thread nD τ) none) Set.univ
    l.lb l.ub l.st hok ⟨⟩ body (fun t _ => colI c q0 q1 fx fw O j t) hb (kk := kk) (Q := Q)
  refine h.trans ?_
  iintro H Hk
  iapply H
  iintro %u HI
  iapply Hk
  rw [show Scf.trips l.lb l.ub l.st = 7 from hl]
  iexact HI

/-- The four loops, each at the column that it computes. -/
theorem loop1_wp {α : Type} {kk : Unit → KProg F α} {Q : α → sProp 𝕄} :
    colX c q0 q1 fx fw O (fwd 0 c).val 0 ⊢ iprop((colX c q0 q1 fx fw O (fwd 0 c).val 7 -∗ WP c (kk ⟨⟩) Q) -∗ WP c (loop1 c >>= kk) Q) :=
  colX_loop c _ k0_t1_loop k0_t1_ok t1_trips (fun t _ => trip1 c t)
    (fun t _ => xTrip_wp c (fwd 0 c).val t.val (t.isLt.trans_eq t1_trips)
      (off9_eq t 0) (off10_eq t 0) (off9_eq t 1) (off10_eq t 1) (cond2_iff t) (cond4_iff t) (off11_eq c t) (off13_eq c t)
      (off6_eq t 0) (off6_eq t 1) (cond1_iff t) (cond3_iff t) (off7_eq t) (off12_eq t))

theorem loop2_wp {α : Type} {kk : Unit → KProg F α} {Q : α → sProp 𝕄} :
    colI c q0 q1 fx fw O (fwd 1 c).val 0 ⊢ iprop((colI c q0 q1 fx fw O (fwd 1 c).val 7 -∗ WP c (kk ⟨⟩) Q) -∗ WP c (loop2 c >>= kk) Q) :=
  colI_loop c _ k0_t2_loop k0_t2_ok t2_trips (fun t _ => trip2 c t)
    (fun t _ => wTrip_wp c (fwd 1 c).val t.val (t.isLt.trans_eq t2_trips)
      (off16_eq t 0) (off17_eq t 0) (off16_eq t 1) (off17_eq t 1) (cond5_iff t) (cond6_iff t) (off18_eq c t) (off19_eq c t))

theorem loop3_wp {α : Type} {kk : Unit → KProg F α} {Q : α → sProp 𝕄} :
    colI c q0 q1 fx fw O (fwd 2 c).val 0 ⊢ iprop((colI c q0 q1 fx fw O (fwd 2 c).val 7 -∗ WP c (kk ⟨⟩) Q) -∗ WP c (loop3 c >>= kk) Q) :=
  colI_loop c _ k0_t3_loop k0_t3_ok t3_trips (fun t _ => trip3 c t)
    (fun t _ => wTrip_wp c (fwd 2 c).val t.val (t.isLt.trans_eq t3_trips)
      (off21_eq t 0) (off22_eq t 0) (off21_eq t 1) (off22_eq t 1) (cond7_iff t) (cond8_iff t) (off23_eq c t) (off24_eq c t))

theorem loop4_wp {α : Type} {kk : Unit → KProg F α} {Q : α → sProp 𝕄} :
    colI c q0 q1 fx fw O c.val 0 ⊢ iprop((colI c q0 q1 fx fw O c.val 7 -∗ WP c (kk ⟨⟩) Q) -∗ WP c (loop4 c >>= kk) Q) :=
  colI_loop c _ k0_t4_loop k0_t4_ok t4_trips (fun t _ => trip4 c t)
    (fun t _ => wTrip_wp c c.val t.val (t.isLt.trans_eq t4_trips)
      (off30_eq t 0) (off31_eq t 0) (off30_eq t 1) (off31_eq t 1) (cond9_iff t) (cond10_iff t) (off32_eq c t) (off33_eq c t))

/-- After a column: the copies' slots free, the accumulator with the whole sum. -/
def colEnd (j : ℕ) : sProp 𝕄 :=
  iprop((∃ V, wGot c q0 fw 0 V) ∗ (∃ V, wGot c q1 fw 1 V) ∗ accAt c fx fw j 15 ∗ xvAt c fx 16 ∗ owesSome c O)

/-- After a later column's last trip nothing is in flight and all sixteen blocks are summed. -/
theorem colI_end (j : ℕ) : colI c q0 q1 fx fw O j 7 ⊢ colEnd c (q0 := q0) (q1 := q1) (fx := fx) (fw := fw) (O := O) j := by
  unfold colI colEnd
  rw [show wSt c q0 fw 0 (2 * 7 + 2) j = iprop(∃ V, wGot c q0 fw 0 V) from if_neg (by decide), show wSt c q1 fw 1 (2 * 7 + 3) j = iprop(∃ V, wGot c q1 fw 1 V) from if_neg (by decide)]
  iintro ⟨H0, H1, Ha, Hx, HO, -⟩
  isplitl [H0]; · iexact H0
  isplitl [H1]; · iexact H1
  isplitl [Ha]; · iexact Ha
  isplitl [Hx] <;> iassumption

/-- After the first column's last trip, likewise, the slots of `x` being free too. -/
theorem colX_end (j : ℕ) : colX c q0 q1 fx fw O j 7
    ⊢ iprop((∃ V, xGot c q0 fx 0 V) ∗ (∃ V, xGot c q1 fx 1 V) ∗ colEnd c (q0 := q0) (q1 := q1) (fx := fx) (fw := fw) (O := O) j) := by
  unfold colX colEnd
  rw [show wSt c q0 fw 0 (2 * 7 + 2) j = iprop(∃ V, wGot c q0 fw 0 V) from if_neg (by decide), show wSt c q1 fw 1 (2 * 7 + 3) j = iprop(∃ V, wGot c q1 fw 1 V) from if_neg (by decide),
    show xSt c q0 fx 0 (2 * 7 + 2) = iprop(∃ V, xGot c q0 fx 0 V) from if_neg (by decide), show xSt c q1 fx 1 (2 * 7 + 3) = iprop(∃ V, xGot c q1 fx 1 V) from if_neg (by decide)]
  iintro ⟨X0, X1, H0, H1, Ha, Hx, HO, -⟩
  isplitl [X0]; · iexact X0
  isplitl [X1]; · iexact X1
  isplitl [H0]; · iexact H0
  isplitl [H1]; · iexact H1
  isplitl [Ha]; · iexact Ha
  isplitl [Hx] <;> iassumption

/-- The next column's first two blocks are put in flight. -/
theorem ahead_wp (j : ℕ) {w0 w1 : Fin 2 → ℕ} {h0 : InB w0 S512x1024.size S8192x4096.size} {h1 : InB w1 S512x1024.size S8192x4096.size}
    (e0 : w0 = wOff 0 j) (e1 : w1 = wOff 1 j) {α : Type} {kk : PUnit → KProg F α} {Q : α → sProp 𝕄} :
    iprop((∃ V, wGot c q0 fw 0 V) ∗ (∃ V, wGot c q1 fw 1 V))
      ⊢ iprop((wFly c q0 fw 0 0 j ∗ wFly c q1 fw 1 1 j -∗ WP c (kk ⟨⟩) Q) -∗ WP c (ahead w0 w1 h0 h1 >>= kk) Q) := by
  unfold ahead
  simp only [bind_assoc]
  iintro ⟨⟨%V0, H0⟩, ⟨%V1, H1⟩⟩ Hk
  iapply (wEnq_wp c 0 j e0) $$ H0
  iintro H0
  iapply (wEnq_wp c 1 j e1) $$ H1
  iintro H1
  iapply Hk
  isplitl [H0] <;> iassumption

/-- A later column before its loop: two blocks multiplied, the next two in flight. -/
theorem headN_wp (j : ℕ) {w0 w1 w2 w3 : Fin 2 → ℕ} {h0 : InB w0 S512x1024.size S8192x4096.size} {h1 : InB w1 S512x1024.size S8192x4096.size}
    {h2 : InB w2 S512x1024.size S8192x4096.size} {h3 : InB w3 S512x1024.size S8192x4096.size}
    (e2 : w2 = wOff 2 j) (e3 : w3 = wOff 3 j) {α : Type} {kk : PUnit → KProg F α} {Q : α → sProp 𝕄} :
    iprop(wFly c q0 fw 0 0 j ∗ wFly c q1 fw 1 1 j ∗ accAny c ∗ xvAt c fx 16 ∗ owesSome c O ∗ mayLocal c O)
      ⊢ iprop((colI c q0 q1 fx fw O j 0 -∗ WP c (kk ⟨⟩) Q) -∗ WP c (headN w0 w1 w2 w3 h0 h1 h2 h3 >>= kk) Q) := by
  unfold headN
  simp only [bind_assoc]
  iintro ⟨Hw0, Hw1, Ha, Hx, HO, #HM⟩ Hk
  iapply (wWait_wp c 0 j (O := O)) $$ [Hw0 HO]
  · isplitl [Hw0]; · iexact Hw0
    isplitl [HO]; · iexact HO
    iexact HM
  iintro ⟨Hw0, HO⟩
  iapply (setStep_wp c j 16 (by omega) (by omega) xhOff_00 xhOff_10) $$ [Hw0 Hx Ha]
  · isplitl [Hw0]; · iexact Hw0
    isplitl [Hx] <;> iassumption
  iintro ⟨Hw0, Hx, Ha⟩
  iapply (wEnq_wp c 2 j e2) $$ Hw0
  iintro Hw0
  iapply (wWait_wp c 1 j (O := O)) $$ [Hw1 HO]
  · isplitl [Hw1]; · iexact Hw1
    isplitl [HO]; · iexact HO
    iexact HM
  iintro ⟨Hw1, HO⟩
  iapply (addStep_wp c j 0 16 (by omega) (by omega) xhOff_01 xhOff_11) $$ [Hw1 Hx Ha]
  · isplitl [Hw1]; · iexact Hw1
    isplitl [Hx] <;> iassumption
  iintro ⟨Hw1, Hx, Ha⟩
  iapply (wEnq_wp c 3 j e3) $$ Hw1
  iintro Hw1
  iapply Hk
  unfold colI
  rw [show wSt c q0 fw 0 (2 * 0 + 2) j = wFly c q0 fw 0 2 j from if_pos (by decide), show wSt c q1 fw 1 (2 * 0 + 3) j = wFly c q1 fw 1 3 j from if_pos (by decide)]
  isplitl [Hw0]; · iexact Hw0
  isplitl [Hw1]; · iexact Hw1
  isplitl [Ha]; · iexact Ha
  isplitl [Hx]; · iexact Hx
  isplitl [HO]; · iexact HO
  iexact HM

/-- The first column before its loop: two blocks loaded, converted and multiplied, the next two in flight. -/
theorem head1_wp {α : Type} {kk : PUnit → KProg F α} {Q : α → sProp 𝕄} :
    iprop((∃ V, xGot c q0 fx 0 V) ∗ (∃ V, xGot c q1 fx 1 V) ∗ (∃ V, wGot c q0 fw 0 V) ∗ (∃ V, wGot c q1 fw 1 V)
        ∗ accAny c ∗ xvAt c fx 0 ∗ owesSome c O ∗ mayLocal c O)
      ⊢ iprop((colX c q0 q1 fx fw O (fwd 0 c).val 0 -∗ WP c (kk ⟨⟩) Q) -∗ WP c (head1 c >>= kk) Q) := by
  unfold head1
  simp only [bind_assoc]
  iintro ⟨⟨%X0, Hx0⟩, ⟨%X1, Hx1⟩, ⟨%V0, Hw0⟩, ⟨%V1, Hw1⟩, Ha, Hx, HO, #HM⟩ Hk
  iapply (wEnq_wp c 0 (fwd 0 c).val (off1_eq c 0)) $$ Hw0
  iintro Hw0
  iapply (wEnq_wp c 1 (fwd 0 c).val (off2_eq c 0)) $$ Hw1
  iintro Hw1
  iapply (xEnq_wp c 0 xOff_0) $$ Hx0
  iintro Hx0
  iapply (xEnq_wp c 1 xOff_1) $$ Hx1
  iintro Hx1
  iapply (xWait_wp c 0 (O := O)) $$ [Hx0 HO]
  · isplitl [Hx0]; · iexact Hx0
    isplitl [HO]; · iexact HO
    iexact HM
  iintro ⟨Hx0, HO⟩
  iapply (castStep_wp c 0 (by omega) xOff_0) $$ [Hx0 Hx]
  · isplitl [Hx0] <;> iassumption
  iintro ⟨Hx0, Hx⟩
  iapply (xEnq_wp c 2 xOff_2) $$ Hx0
  iintro Hx0
  iapply (wWait_wp c 0 (fwd 0 c).val (O := O)) $$ [Hw0 HO]
  · isplitl [Hw0]; · iexact Hw0
    isplitl [HO]; · iexact HO
    iexact HM
  iintro ⟨Hw0, HO⟩
  iapply (setStep_wp c (fwd 0 c).val (0 + 1) (by omega) (by omega) xhOff_00 xhOff_10) $$ [Hw0 Hx Ha]
  · isplitl [Hw0]; · iexact Hw0
    isplitl [Hx] <;> iassumption
  iintro ⟨Hw0, Hx, Ha⟩
  iapply (wEnq_wp c 2 (fwd 0 c).val (off3_eq c 0)) $$ Hw0
  iintro Hw0
  iapply (xWait_wp c 1 (O := O)) $$ [Hx1 HO]
  · isplitl [Hx1]; · iexact Hx1
    isplitl [HO]; · iexact HO
    iexact HM
  iintro ⟨Hx1, HO⟩
  iapply (castStep_wp c (0 + 1) (by omega) xOff_1) $$ [Hx1 Hx]
  · isplitl [Hx1] <;> iassumption
  iintro ⟨Hx1, Hx⟩
  iapply (xEnq_wp c 3 xOff_3) $$ Hx1
  iintro Hx1
  iapply (wWait_wp c 1 (fwd 0 c).val (O := O)) $$ [Hw1 HO]
  · isplitl [Hw1]; · iexact Hw1
    isplitl [HO]; · iexact HO
    iexact HM
  iintro ⟨Hw1, HO⟩
  iapply (addStep_wp c (fwd 0 c).val 0 (0 + 1 + 1) (by omega) (by omega) xhOff_01 xhOff_11) $$ [Hw1 Hx Ha]
  · isplitl [Hw1]; · iexact Hw1
    isplitl [Hx] <;> iassumption
  iintro ⟨Hw1, Hx, Ha⟩
  iapply (wEnq_wp c 3 (fwd 0 c).val (off4_eq c 0)) $$ Hw1
  iintro Hw1
  iapply Hk
  unfold colX
  rw [show wSt c q0 fw 0 (2 * 0 + 2) (fwd 0 c).val = wFly c q0 fw 0 2 (fwd 0 c).val from if_pos (by decide), show wSt c q1 fw 1 (2 * 0 + 3) (fwd 0 c).val = wFly c q1 fw 1 3 (fwd 0 c).val from if_pos (by decide),
    show xSt c q0 fx 0 (2 * 0 + 2) = xFly c q0 fx 0 2 from if_pos (by decide), show xSt c q1 fx 1 (2 * 0 + 3) = xFly c q1 fx 1 3 from if_pos (by decide)]
  isplitl [Hx0]; · iexact Hx0
  isplitl [Hx1]; · iexact Hx1
  isplitl [Hw0]; · iexact Hw0
  isplitl [Hw1]; · iexact Hw1
  isplitl [Ha]; · iexact Ha
  isplitl [Hx]; · iexact Hx
  isplitl [HO]; · iexact HO
  iexact HM

end Cols

end Cert.KernelProof

end
-- ==== Proof.Proto.lean ====
/- The protocol between the devices: which semaphores carry what, what each device owes at launch,
   and in which order waits are admissible. -/
module

public import proofs.«01_k».proof.Proof.Cols

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours -/

/-- The peers before and after a device. -/
theorem bwd_fwd (r : Fin 3) (c : Dev nD) : bwd r (fwd r c) = c := by revert r c; decide
theorem fwd_bwd (r : Fin 3) (c : Dev nD) : fwd r (bwd r c) = c := by revert r c; decide
theorem bwd_eq_fwd (r : Fin 3) (c : Dev nD) : bwd r c = fwd r.rev c := by revert r c; decide
theorem fwd_ne (r : Fin 3) (c : Dev nD) : fwd r c ≠ c := by revert r c; decide
theorem fwd_inj {r r' : Fin 3} (c : Dev nD) (h : fwd r c = fwd r' c) : r = r' := by revert r r' c; decide
def turn (r : Fin 3) : Dev nD ≃ Dev nD := ⟨fwd r, bwd r, bwd_fwd r, fwd_bwd r⟩

/-- The devices that the program addresses. -/
theorem dev1_eq : ∀ c : Dev nD, dev1 c = fwd 0 c := by decide +kernel
theorem dev2_eq : ∀ c : Dev nD, dev2 c = fwd 1 c := by decide +kernel
theorem dev3_eq : ∀ c : Dev nD, dev3 c = fwd 2 c := by decide +kernel
theorem dev4_eq : ∀ c : Dev nD, dev4 c = fwd 0 c := by decide +kernel
theorem dev5_eq : ∀ c : Dev nD, dev5 c = fwd 1 c := by decide +kernel
theorem dev6_eq : ∀ c : Dev nD, dev6 c = fwd 2 c := by decide +kernel

/-! ## The cells -/

/-- The semaphores other devices signal, or whose copies leave the device: barrier, send, receive. -/
def csem : Fin 6 → SemLoc sig
  | 0 => .reg barS | 1 => .dma (sSem 0) | 2 => .dma (sSem 1) | 3 => .dma (rSem 0) | 4 => .dma (rSem 1) | 5 => .dma (rSem 2)
abbrev kcell (ck : Dev nD × Fin 6) : GSem nD τ sig := ((ck.1 : Thread nD τ), csem ck.2)
abbrev barCell (c : Dev nD) : GSem nD τ sig := ((c : Thread nD τ), .reg barS)
abbrev sendCell (b : Fin 2) (c : Dev nD) : GSem nD τ sig := ((c : Thread nD τ), .dma (sSem b))
abbrev recvCell (r : Fin 3) (c : Dev nD) : GSem nD τ sig := ((c : Thread nD τ), .dma (rSem r))

/-- The six semaphores of a device that other devices or its own sends use are different. -/
theorem csem_inj : Function.Injective csem := by decide
theorem csem_send (b : Fin 2) : csem ⟨1 + b.val, by omega⟩ = .dma (sSem b) := by revert b; decide
theorem csem_recv (r : Fin 3) : csem ⟨3 + r.val, by omega⟩ = .dma (rSem r) := by revert r; decide

/-- The credit of one transfer of a column. -/
abbrev N : ℕ := (sSlot 0).view.dmaCredit
/-- Every copy of a column counts the same amount. -/
theorem N_pos : 0 < N := View.dmaCredit_pos _ (by decide)
theorem sSlot_credit (b : Fin 2) : (sSlot b).view.dmaCredit = N := rfl
theorem oBlk_credit (o : Fin 2 → ℕ) (ho : InB o S2048x1024.size S8192x1024.size) : (oBlk o ho).view.dmaCredit = N := rfl

/-! ## Contents -/

section Contents
variable (fx : Dev nD → XC F) (fw : Dev nD → WC F)

/-- The rows of device `c`'s result that device `e` computes, at contents `f`. -/
abbrev oPts (c e : Dev nD) (f : Buf (Elt F) (oH.view.loc (c : Thread nD τ))) : sProp 𝕄 :=
  oH.view.loc (c : Thread nD τ) ↦[(oRow e).view.set]{fullShare} f
/-- Those rows, computed. -/
def oDone (c e : Dev nD) : sProp 𝕄 := iprop(∃ f, ⌜(oRow e).view.read (Elt F) f = outV (fx e) (fw e) c.val⌝ ∗ oPts c e f)
abbrev sPts (c : Dev nD) (b : Fin 2) (f : Buf (Elt F) ((sSlot b).view.loc (c : Thread nD τ))) : sProp 𝕄 :=
  (sSlot b).view.loc (c : Thread nD τ) ↦[(sSlot b).view.set]{fullShare} f

instance oPts_storable (c e : Dev nD) (f) : BI.Storable (upEmb : UEmb _ 𝕄) (oPts (F := F) c e f) := by unfold oPts; infer_instance
instance oDone_storable (c e : Dev nD) : BI.Storable (upEmb : UEmb _ 𝕄) (oDone fx fw c e) := by unfold oDone; infer_instance
instance sPts_storable (c : Dev nD) (b) (f) : BI.Storable (upEmb : UEmb _ 𝕄) (sPts (F := F) c b f) := by unfold sPts; infer_instance

/-! ## The schedule -/

/-- What the signal of duty `d` hands `c`: the sender's rows that `c` fills, and that its receive cell is at round 0. -/
def barPay (c : Dev nD) (d : Fin 3) : sProp 𝕄 := iprop((∃ f, oPts (bwd d c) c f) ∗ reached ER (recvCell d.rev (bwd d c)) 0)
def recvPay (c : Dev nD) (r : Fin 3) : sProp 𝕄 := oDone fx fw c (bwd r c)
def sendPay (c : Dev nD) (b : Fin 2) : sProp 𝕄 := iprop(∃ f, sPts c b f)

abbrev IsXfer (sm : SemLoc sig) : Prop := ∃ k : Fin 6, k ≠ 0 ∧ sm = csem k
/-- The number of rounds: send slot 0 is used twice. -/
def rnds (sm : SemLoc sig) : ℕ := if sm = csem 1 then 2 else 1

def Rd : Rounds.Schedule (GSem nD τ sig) (Fin 3) 𝕄 where
  duties g r := if g.1.2 = .tc then (if g.2 = .reg barS then (if r = 0 then Finset.univ else ∅) else if IsXfer g.2 ∧ r < rnds g.2 then {0} else ∅) else ∅
  unitless _ := False
  amount g _ _ := if g.2 = .reg barS then 1 else N
  payload g _ d :=
    if g.2 = .reg barS then barPay g.1.1 d
    else if g.2 = csem 1 then sendPay g.1.1 0
    else if g.2 = csem 2 then sendPay g.1.1 1
    else if g.2 = csem 3 then recvPay fx fw g.1.1 0
    else if g.2 = csem 4 then recvPay fx fw g.1.1 1
    else if g.2 = csem 5 then recvPay fx fw g.1.1 2
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd fx fw).payload g r d) := by
  show BI.Storable upEmb (if g.2 = .reg barS then barPay g.1.1 d else if g.2 = csem 1 then sendPay g.1.1 0
    else if g.2 = csem 2 then sendPay g.1.1 1 else if g.2 = csem 3 then recvPay fx fw g.1.1 0
    else if g.2 = csem 4 then recvPay fx fw g.1.1 1 else if g.2 = csem 5 then recvPay fx fw g.1.1 2 else iprop(emp))
  unfold barPay recvPay sendPay
  (repeat' split) <;> infer_instance

/-- The rounds: a barrier has one with three payers, a receive cell one with one, a send cell as many as copies leave its slot. -/
theorem duties_bar (c : Dev nD) : (Rd fx fw).duties (barCell c) 0 = Finset.univ := by
  dsimp only [Rd]; rw [if_pos rfl, if_pos rfl, if_pos rfl]
theorem duties_send (b : Fin 2) (c : Dev nD) (r : ℕ) (hr : r < 2 - b.val) : (Rd fx fw).duties (sendCell b c) r = {0} := by
  dsimp only [Rd]
  rw [if_pos rfl, if_neg (fun h => by cases h), if_pos]
  refine ⟨⟨⟨1 + b.val, by omega⟩, fun h => absurd (congrArg Fin.val h) (show 1 + b.val ≠ 0 by omega), (csem_send b).symm⟩, ?_⟩
  have h : rnds (.dma (sSem b)) = 2 - b.val := by clear hr; revert b; decide
  rw [h]; exact hr
theorem duties_recv (i : Fin 3) (c : Dev nD) : (Rd fx fw).duties (recvCell i c) 0 = {0} := by
  dsimp only [Rd]
  rw [if_pos rfl, if_neg (fun h => by cases h), if_pos]
  refine ⟨⟨⟨3 + i.val, by omega⟩, fun h => absurd (congrArg Fin.val h) (show 3 + i.val ≠ 0 by omega), (csem_recv i).symm⟩, ?_⟩
  revert i; decide
theorem duties_later (g : GSem nD τ sig) (n : ℕ) (hn : rnds g.2 ≤ n) : ∀ r, n ≤ r → (Rd fx fw).duties g r = ∅ := by
  intro r hr
  have h1 : 1 ≤ rnds g.2 := by unfold rnds; split <;> decide
  dsimp only [Rd]
  split
  · split
    · exact if_neg (by omega)
    · exact if_neg (fun h => by omega)
  · rfl

/-- What a payer adds. -/
theorem amount_bar (c : Dev nD) (r) (d) : (Rd fx fw).amount (barCell c) r d = 1 := by dsimp only [Rd]; exact if_pos rfl
theorem amount_send (b : Fin 2) (c : Dev nD) (r) (d) : (Rd fx fw).amount (sendCell b c) r d = N := by dsimp only [Rd]; exact if_neg (fun h => by cases h)
theorem amount_recv (i : Fin 3) (c : Dev nD) (r) (d) : (Rd fx fw).amount (recvCell i c) r d = N := by dsimp only [Rd]; exact if_neg (fun h => by cases h)

/-- What a round expects. -/
theorem expect_bar (c : Dev nD) : (Rd fx fw).expect (barCell c) 0 = 3 := by
  unfold Schedule.expect Schedule.amountOf
  rw [duties_bar, Finset.sum_congr rfl fun d _ => amount_bar fx fw c 0 d, Finset.sum_const, Finset.card_univ, Fintype.card_fin, smul_eq_mul]
theorem expect_send (b : Fin 2) (c : Dev nD) (r : ℕ) (hr : r < 2 - b.val) : (Rd fx fw).expect (sendCell b c) r = N := by
  unfold Schedule.expect Schedule.amountOf; rw [duties_send fx fw b c r hr, Finset.sum_singleton, amount_send]
theorem expect_recv (i : Fin 3) (c : Dev nD) : (Rd fx fw).expect (recvCell i c) 0 = N := by
  unfold Schedule.expect Schedule.amountOf; rw [duties_recv, Finset.sum_singleton, amount_recv]

/-- What a payer hands over. -/
theorem payload_bar (c : Dev nD) (r) (d : Fin 3) : (Rd fx fw).payload (barCell c) r d = barPay c d := by dsimp only [Rd]; exact if_pos rfl
theorem payload_send (b : Fin 2) (c : Dev nD) (r) (d : Fin 3) : (Rd fx fw).payload (sendCell b c) r d = sendPay c b := by
  dsimp only [Rd]
  fin_cases b
  · rw [if_neg (fun h => by cases h)]; exact if_pos rfl
  · rw [if_neg (fun h => by cases h), if_neg (by decide)]; exact if_pos rfl
theorem payload_recv (i : Fin 3) (c : Dev nD) (r) (d : Fin 3) : (Rd fx fw).payload (recvCell i c) r d = recvPay fx fw c i := by
  dsimp only [Rd]
  fin_cases i
  · rw [if_neg (fun h => by cases h), if_neg (by decide), if_neg (by decide)]; exact if_pos rfl
  · rw [if_neg (fun h => by cases h), if_neg (by decide), if_neg (by decide), if_neg (by decide)]; exact if_pos rfl
  · rw [if_neg (fun h => by cases h), if_neg (by decide), if_neg (by decide), if_neg (by decide), if_neg (by decide)]; exact if_pos rfl

/-- What a wait for a whole round receives. -/
theorem rest_bar (c : Dev nD) : bigSep ((Rd fx fw).duties (barCell c) 0 \ ∅) (fun d => (Rd fx fw).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]
  rfl
theorem rest_send (b : Fin 2) (c : Dev nD) (r : ℕ) (hr : r < 2 - b.val) :
    bigSep ((Rd fx fw).duties (sendCell b c) r \ ∅) (fun d => (Rd fx fw).payload (sendCell b c) r d) = sendPay c b := by
  rw [Finset.sdiff_empty, duties_send fx fw b c r hr, bigSep_singleton, payload_send]
theorem rest_recv (i : Fin 3) (c : Dev nD) : bigSep ((Rd fx fw).duties (recvCell i c) 0 \ ∅) (fun d => (Rd fx fw).payload (recvCell i c) 0 d) = recvPay fx fw c i := by
  rw [Finset.sdiff_empty, duties_recv, bigSep_singleton, payload_recv]

end Contents

/-! ## What each device owes -/

def R3 (c : Dev nD) : CellTallies nD τ sig Unit := 0 + tallyAt (recvCell 2 (fwd 2 c)) () N
def R2 (c : Dev nD) : CellTallies nD τ sig Unit := R3 c + tallyAt (recvCell 1 (fwd 1 c)) () N
def R1 (c : Dev nD) : CellTallies nD τ sig Unit := R2 c + tallyAt (recvCell 0 (fwd 0 c)) () N
def B2 (c : Dev nD) : CellTallies nD τ sig Unit := R1 c + tallyAt (barCell (fwd 2 c)) () 1
def B1 (c : Dev nD) : CellTallies nD τ sig Unit := B2 c + tallyAt (barCell (fwd 1 c)) () 1
/-- At launch: the three transfers and the three barrier signals. -/
def O₀ (c : Dev nD) : CellTallies nD τ sig Unit := B1 c + tallyAt (barCell (fwd 0 c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if (∃ r, g.2 = .dma (rSem r)) then 2 else 0

/-- Only the devices' own threads have levels. -/
theorem L_of_ne (g : GSem nD τ sig) (h : g.1.2 ≠ .tc) : L g = ∅ := if_neg h
theorem L_tc (c : Dev nD) (sm : SemLoc sig) : L ((c : Thread nD τ), sm) = {()} := if_pos rfl

/-- Only transfers are owed. -/
def Late (O : CellTallies nD τ sig Unit) : Prop := ∀ g u, 0 < O g u → ∃ r c, g = recvCell r c

/-- Debts of copies only. -/
theorem late_zero : Late 0 := fun g u h => absurd h (Nat.lt_irrefl 0)
theorem late_add {O : CellTallies nD τ sig Unit} (h : Late O) (r : Fin 3) (c : Dev nD) (n : ℕ) : Late (O + tallyAt (recvCell r c) () n) := by
  intro g u hg
  rw [Pi.add_apply, Finsupp.add_apply, tallyAt_apply] at hg
  by_cases h' : g = recvCell r c ∧ u = ()
  · exact ⟨r, c, h'.1⟩
  · rw [if_neg h', Nat.add_zero] at hg; exact h g u hg
theorem late_R3 (c : Dev nD) : Late (R3 c) := late_add late_zero _ _ _
theorem late_R2 (c : Dev nD) : Late (R2 c) := late_add (late_R3 c) _ _ _
theorem late_R1 (c : Dev nD) : Late (R1 c) := late_add (late_R2 c) _ _ _

/-- The level of a receive cell. -/
theorem lv_recv (r : Fin 3) (c : Dev nD) : lv (recvCell r c) () = 2 := by
  unfold lv; rw [if_neg (fun h => by cases h), if_pos ⟨r, rfl⟩]

/-- While only copies are owed, any wait but one on a receive cell is allowed. -/
theorem mayWait_late (c : Dev nD) (sm : SemLoc sig) (hsm : ∀ r, sm ≠ .dma (rSem r)) {O : CellTallies nD τ sig Unit} (hO : Late O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨r, a, rfl⟩ := hO g u hg; rw [L_tc]; exact Finset.mem_singleton_self _)
    (fun p hp => by
      rw [Finset.mem_singleton.mp hp]; dsimp only [lv]
      split
      · exact Nat.le_refl 1
      · rw [if_neg (fun ⟨r, h⟩ => hsm r h)]; exact Nat.zero_le 1)
    (fun g u hg => by obtain ⟨r, a, rfl⟩ := hO g u hg; rw [show lv (recvCell r a) u = 2 from lv_recv r a]; decide)

/-- The semaphores of loads and sends are not receive semaphores. -/
theorem wSem_ne (b : Fin 2) (r : Fin 3) : (SemLoc.dma (wSem b) : SemLoc sig) ≠ .dma (rSem r) := by revert b r; decide
theorem xSem_ne (b : Fin 2) (r : Fin 3) : (SemLoc.dma (xSem b) : SemLoc sig) ≠ .dma (rSem r) := by revert b r; decide
theorem sSem_ne (b : Fin 2) (r : Fin 3) : (SemLoc.dma (sSem b) : SemLoc sig) ≠ .dma (rSem r) := by revert b r; decide

/-- So the waits for loads are allowed. -/
theorem mayLocal_late (c : Dev nD) {O : CellTallies nD τ sig Unit} (hO : Late O) : (levAts L lv : sProp 𝕄) ⊢ mayLocal c O := by
  unfold mayLocal
  iintro #H
  isplitr
  · iintro %b; iapply (mayWait_late c _ (wSem_ne b) hO); iexact H
  · iintro %b; iapply (mayWait_late c _ (xSem_ne b) hO); iexact H

/-! ## The element sets -/

/-- The rows of different devices, and the slots of each buffer, are disjoint; the slots cover their buffer. -/
theorem oRow_mem {e : Dev nD} {i : S8192x1024.Idx} (h : i ∈ (oRow e).view.set) : (i 0).val / 2048 = e.val := by
  obtain ⟨x, -, rfl⟩ := Finset.mem_map.mp h
  have h0 : k0_off14 e 0 = 2048 * e.val := by rw [k0_off14_eq]; rfl
  have hx : (x 0).val < 2048 := (x 0).isLt
  show (k0_off14 e 0 + 1 * (x 0).val) / 2048 = e.val
  omega
theorem oRow_disj {e e' : Dev nD} (h : e ≠ e') : Disjoint (oRow e).view.set (oRow e').view.set := by
  rw [Finset.disjoint_left]
  exact fun i hi hi' => h (Fin.ext ((oRow_mem hi).symm.trans (oRow_mem hi')))

theorem xSlot_disj : Disjoint (xSlot 0).view.set (xSlot 1).view.set := by
  rw [xSlot_set, xSlot_set, Finset.disjoint_left]
  intro i hi hi'
  obtain ⟨x, -, rfl⟩ := Finset.mem_map.mp hi
  obtain ⟨y, -, hy⟩ := Finset.mem_map.mp hi'
  have h0 : 1 + 1 * (y 0).val = 0 + 1 * (x 0).val := congrArg (fun i : S2x2048x512.Idx => (i 0).val) hy
  have hx : (x 0).val < 1 := (x 0).isLt
  omega
theorem wSlot_disj : Disjoint (wSlot 0).view.set (wSlot 1).view.set := by
  rw [wSlot_set, wSlot_set, Finset.disjoint_left]
  intro i hi hi'
  obtain ⟨x, -, rfl⟩ := Finset.mem_map.mp hi
  obtain ⟨y, -, hy⟩ := Finset.mem_map.mp hi'
  have h0 : 1 + 1 * (y 0).val = 0 + 1 * (x 0).val := congrArg (fun i : S2x512x1024.Idx => (i 0).val) hy
  have hx : (x 0).val < 1 := (x 0).isLt
  omega
theorem sSlot_disj : Disjoint (sSlot 0).view.set (sSlot 1).view.set := by
  rw [sSlot_set, sSlot_set, Finset.disjoint_left]
  intro i hi hi'
  obtain ⟨x, -, rfl⟩ := Finset.mem_map.mp hi
  obtain ⟨y, -, hy⟩ := Finset.mem_map.mp hi'
  have h0 : 1 + 1 * (y 0).val = 0 + 1 * (x 0).val := congrArg (fun i : S2x2048x1024.Idx => (i 0).val) hy
  have hx : (x 0).val < 1 := (x 0).isLt
  omega

theorem xSlot_cover : (xSlot 0).view.set ∪ (xSlot 1).view.set = Finset.univ := by
  rw [xSlot_set, xSlot_set, Finset.eq_univ_iff_forall]
  intro i
  have h0 : (i 0).val < 2 := (i 0).isLt
  have key : ∀ b : Fin 2, (i 0).val = b.val → i ∈ (xB.view.slice (xsRect b)).set := fun b hb =>
    Finset.mem_map.mpr ⟨fun a => match a with
      | ⟨0, _⟩ => (⟨0, by decide⟩ : Fin 1) | ⟨1, _⟩ => (⟨(i 1).val, (i 1).isLt⟩ : Fin 2048) | ⟨2, _⟩ => (⟨(i 2).val, (i 2).isLt⟩ : Fin 512),
      Finset.mem_univ _, by
        funext a; apply Fin.ext
        match a with
        | ⟨0, _⟩ => show b.val + 1 * 0 = (i 0).val; omega
        | ⟨1, _⟩ => show 0 + 1 * (i 1).val = (i 1).val; omega
        | ⟨2, _⟩ => show 0 + 1 * (i 2).val = (i 2).val; omega⟩
  rw [Finset.mem_union]
  rcases (show (i 0).val = 0 ∨ (i 0).val = 1 by omega) with h | h
  · exact Or.inl (key 0 h)
  · exact Or.inr (key 1 h)
theorem wSlot_cover : (wSlot 0).view.set ∪ (wSlot 1).view.set = Finset.univ := by
  rw [wSlot_set, wSlot_set, Finset.eq_univ_iff_forall]
  intro i
  have h0 : (i 0).val < 2 := (i 0).isLt
  have key : ∀ b : Fin 2, (i 0).val = b.val → i ∈ (wB.view.slice (wsRect b)).set := fun b hb =>
    Finset.mem_map.mpr ⟨fun a => match a with
      | ⟨0, _⟩ => (⟨0, by decide⟩ : Fin 1) | ⟨1, _⟩ => (⟨(i 1).val, (i 1).isLt⟩ : Fin 512) | ⟨2, _⟩ => (⟨(i 2).val, (i 2).isLt⟩ : Fin 1024),
      Finset.mem_univ _, by
        funext a; apply Fin.ext
        match a with
        | ⟨0, _⟩ => show b.val + 1 * 0 = (i 0).val; omega
        | ⟨1, _⟩ => show 0 + 1 * (i 1).val = (i 1).val; omega
        | ⟨2, _⟩ => show 0 + 1 * (i 2).val = (i 2).val; omega⟩
  rw [Finset.mem_union]
  rcases (show (i 0).val = 0 ∨ (i 0).val = 1 by omega) with h | h
  · exact Or.inl (key 0 h)
  · exact Or.inr (key 1 h)
theorem sSlot_at (i : S2x2048x1024.Idx) (b : Fin 2) (hb : (i 0).val = b.val) : i ∈ (sSlot b).view.set := by
  rw [sSlot_set]
  exact Finset.mem_map.mpr ⟨fun a => match a with
      | ⟨0, _⟩ => (⟨0, by decide⟩ : Fin 1) | ⟨1, _⟩ => (⟨(i 1).val, (i 1).isLt⟩ : Fin 2048) | ⟨2, _⟩ => (⟨(i 2).val, (i 2).isLt⟩ : Fin 1024),
      Finset.mem_univ _, by
        funext a; apply Fin.ext
        match a with
        | ⟨0, _⟩ => show b.val + 1 * 0 = (i 0).val; omega
        | ⟨1, _⟩ => show 0 + 1 * (i 1).val = (i 1).val; omega
        | ⟨2, _⟩ => show 0 + 1 * (i 2).val = (i 2).val; omega⟩
theorem sSlot_cover : (sSlot 0).view.set ∪ (sSlot 1).view.set = Finset.univ := by
  rw [Finset.eq_univ_iff_forall]
  intro i
  have h0 : (i 0).val < 2 := (i 0).isLt
  rw [Finset.mem_union]
  rcases (show (i 0).val = 0 ∨ (i 0).val = 1 by omega) with h | h
  · exact Or.inl (sSlot_at i 0 h)
  · exact Or.inr (sSlot_at i 1 h)

/-- A buffer cut in two, and put together. -/
theorem cut_two {ℓ : Loc nD τ sig} {A B : Finset (Idx ℓ)} (hd : Disjoint A B) (hc : A ∪ B = Finset.univ) (f : Buf (Elt F) ℓ) :
    (ℓ ↦{fullShare} f : sProp 𝕄) ⊢ iprop((ℓ ↦[A]{fullShare} f) ∗ (ℓ ↦[B]{fullShare} f)) := by
  rw [← hc]; exact (pointsTo_union hd).1
/-- Two parts of a buffer make the buffer. -/
theorem join_two {ℓ : Loc nD τ sig} {A B : Finset (Idx ℓ)} (hd : Disjoint A B) (hc : A ∪ B = Finset.univ) (f g : Buf (Elt F) ℓ) :
    iprop((ℓ ↦[A]{fullShare} f) ∗ (ℓ ↦[B]{fullShare} g)) ⊢ (iprop(∃ h, ℓ ↦{fullShare} h) : sProp 𝕄) := by
  iintro H
  iexists (B.piecewise g f)
  rw [← hc]
  iapply (pointsTo_join hd); iexact H

/-- The two halves of a send slot are the column. -/
theorem slot_read (fx : XC F) (fw : WC F) (j : ℕ) (b : Fin 2) (f : (cc0_scratch4 : Ref sig .tc).ty.Contents (Elt F))
    (hf : ∀ h, (sB.view.slice (shRect b h)).read (Elt F) f = siluK fx fw j h) : (sSlot b).view.read (Elt F) f = outV fx fw j := by
  funext i
  have hi : (i 0).val < 2048 := (i 0).isLt
  have hr : Shape.reshapeEquiv squeezes_S1x2048x1024_S2048x1024.numel_eq i = (Fin.cons ⟨0, Nat.one_pos⟩ i : S1x2048x1024.Idx) :=
    shapeCast_dropUnit_apply (α := S1x2048x1024.Idx) ![2048, 1024] (fun k => k) squeezes_S1x2048x1024_S2048x1024.numel_eq i
  unfold outV
  rw [← hf]
  show f ((Rect.unit (s := S2x2048x1024) ![b.val, 0, 0] S1x2048x1024.size (inbS b)).emb (Shape.reshapeEquiv squeezes_S1x2048x1024_S2048x1024.numel_eq i)) = f _
  rw [hr]
  congr 1
  funext a
  apply Fin.ext
  match a with
  | ⟨0, _⟩ => rfl
  | ⟨1, _⟩ => show 0 + 1 * (i 0).val = 1024 * ((i 0).val / 1024) + 1 * ((i 0).val % 1024); omega
  | ⟨2, _⟩ => rfl

end Cert.KernelProof

end
-- ==== Proof.Comm.lean ====
/- The steps between the devices: the handshake, a column sent, its return and its arrival. -/
module

public import proofs.«01_k».proof.Proof.Proto

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Comm
variable (fx : Dev nD → XC F) (fw : Dev nD → WC F) (c : Dev nD)

/-- A cell's invariant, at some name. -/
def cinv (g : GSem nD τ sig) : sProp 𝕄 := iprop(∃ κ : ℕ, cellInv ER (Rd fx fw) κ g)
instance cinv_persistent (g : GSem nD τ sig) : BI.Persistent (cinv fx fw g) := by unfold cinv; infer_instance

/-- What every device knows: all cells' invariants, that all are at round 0 or later, and the levels. -/
def shared : sProp 𝕄 :=
  iprop((∀ a, cinv fx fw (barCell a)) ∗ (∀ b a, cinv fx fw (sendCell b a)) ∗ (∀ r a, cinv fx fw (recvCell r a))
    ∗ (∀ a, reached ER (barCell a) 0) ∗ (∀ b a, reached ER (sendCell b a) 0) ∗ (∀ r a, reached ER (recvCell r a) 0) ∗ levAts L lv)
instance shared_persistent : BI.Persistent (shared fx fw) := by unfold shared; infer_instance

/-- A signal to the device `r + 1` places on, with this device's rows that it fills. -/
theorem sig_wp {α : Type} {kk : PUnit → KProg F α} {Q : α → sProp 𝕄} (r : Fin 3) (n : Dev nD) (hn : n = fwd r c) (O : CellTallies nD τ sig Unit) :
    iprop(shared fx fw ∗ (∃ f, oPts c (fwd r c) f) ∗ dutyTok ER (barCell (fwd r c)) 0 r ∗ owesSome c (O + tallyAt (barCell (fwd r c)) () 1))
      ⊢ iprop((owesSome c O -∗ WP c (kk ⟨⟩) Q) -∗ WP c (semSignalWord n barS 1#32 >>= kk) Q) := by
  subst hn
  simp only [semSignalWord, Prog.lift, Prog.bind_op, Prog.bind_ret, Prog.pure_eq_ret]
  unfold shared cinv owesSome
  iintro ⟨⟨#HB, #HS, #HR, #hB, #hS, #hR, -⟩, Hp, Ht, ⟨%W, HO⟩⟩ Hk
  ihave HI := HB $$ %(fwd r c)
  icases HI with ⟨%κ, #HI⟩
  iapply (Rounds.wp_signal 𝒱₀ ER (Rd fx fw) (c : Thread nD τ) none (dst := (fwd r c : Thread nD τ)) (κ := κ) (d := r)
    (by rw [duties_bar]; exact Finset.mem_univ _) ((amount_bar fx fw (fwd r c) 0 r).trans (by decide)) () O rfl) $$ [HO Ht Hp]
  · isplitr; · iexact HI
    isplitl [HO]; · iexact HO
    isplitl [Ht]; · iexact Ht
    isplitl [Hp]
    · rw [payload_bar]; unfold barPay; rw [bwd_fwd]
      isplitl [Hp]; · iexact Hp
      iapply hR
    · iapply hB
  iintro HO
  iapply Hk
  iexists W; iexact HO

/-- The wait for the three signals: the rows of the others that this device fills. -/
theorem barWait_wp {α : Type} {kk : PUnit → KProg F α} {Q : α → sProp 𝕄} {O : CellTallies nD τ sig Unit} (hO : Late O) :
    iprop(shared fx fw ∗ cred (tallyAt (barCell c) () 3) ∗ atPos ER (barCell c) 0 ∅ 0 ∗ owesSome c O)
      ⊢ iprop(((∃ f, oPts (fwd 0 c) c f) ∗ (∃ f, oPts (fwd 1 c) c f) ∗ (∃ f, oPts (fwd 2 c) c f) ∗ atPos ER (barCell c) 1 ∅ 0 ∗ owesSome c O -∗ WP c (kk ⟨⟩) Q)
        -∗ WP c (semWaitWord barS 3#32 >>= kk) Q) := by
  simp only [semWaitWord, Prog.lift, Prog.bind_op, Prog.bind_ret, Prog.pure_eq_ret]
  unfold shared cinv owesSome
  iintro ⟨⟨#HB, #HS, #HR, #hB, #hS, #hR, #HL⟩, Hc, Hat, ⟨%W, HO⟩⟩ Hk
  ihave HI := HB $$ %c
  icases HI with ⟨%κ, #HI⟩
  iapply (Rounds.wp_wait_rest_token 𝒱₀ ER (Rd fx fw) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait_late c _ (fun r h => by cases h) hO); iexact HL
    iexact Hat
  iintro ⟨HO, Hat, -, Hpay⟩
  ihave Hp := (Entails.of_eq (rest_bar fx fw c)) $$ Hpay
  unfold barPay
  icases Hp with ⟨⟨H0, -⟩, ⟨H1, -⟩, ⟨H2, -⟩⟩
  rw [show bwd 0 c = fwd 2 c from bwd_eq_fwd 0 c, show bwd 1 c = fwd 1 c from bwd_eq_fwd 1 c, show bwd 2 c = fwd 0 c from bwd_eq_fwd 2 c]
  iapply Hk
  isplitl [H2]; · iexact H2
  isplitl [H1]; · iexact H1
  isplitl [H0]; · iexact H0
  isplitl [Hat]; · iexact Hat
  iexists _; iexact HO

/-- The handshake: a device signals each peer, giving it the rows that this peer fills, and after its wait holds its
    own rows of each peer's result. -/
theorem handshake_wp {α : Type} {kk : PUnit → KProg F α} {Q : α → sProp 𝕄} :
    iprop(shared fx fw ∗ ((∃ f, oPts c (fwd 0 c) f) ∗ (∃ f, oPts c (fwd 1 c) f) ∗ (∃ f, oPts c (fwd 2 c) f))
        ∗ (dutyTok ER (barCell (fwd 0 c)) 0 0 ∗ dutyTok ER (barCell (fwd 1 c)) 0 1 ∗ dutyTok ER (barCell (fwd 2 c)) 0 2)
        ∗ cred (tallyAt (barCell c) () 3) ∗ atPos ER (barCell c) 0 ∅ 0 ∗ owesSome c (O₀ c))
      ⊢ iprop(((∃ f, oPts (fwd 0 c) c f) ∗ (∃ f, oPts (fwd 1 c) c f) ∗ (∃ f, oPts (fwd 2 c) c f) ∗ atPos ER (barCell c) 1 ∅ 0 ∗ owesSome c (R1 c) -∗ WP c (kk ⟨⟩) Q)
        -∗ WP c (handshake c >>= kk) Q) := by
  unfold handshake
  simp only [bind_assoc]
  unfold O₀
  iintro ⟨#HS, ⟨H0, H1, H2⟩, ⟨T0, T1, T2⟩, Hc, Hat, HO⟩ Hk
  iapply (sig_wp fx fw c 0 (dev1 c) (dev1_eq c) (B1 c)) $$ [H0 T0 HO]
  · isplitr; · iexact HS
    isplitl [H0]; · iexact H0
    isplitl [T0] <;> iassumption
  iintro HO
  unfold B1
  iapply (sig_wp fx fw c 1 (dev2 c) (dev2_eq c) (B2 c)) $$ [H1 T1 HO]
  · isplitr; · iexact HS
    isplitl [H1]; · iexact H1
    isplitl [T1] <;> iassumption
  iintro HO
  unfold B2
  iapply (sig_wp fx fw c 2 (dev3 c) (dev3_eq c) (R1 c)) $$ [H2 T2 HO]
  · isplitr; · iexact HS
    isplitl [H2]; · iexact H2
    isplitl [T2] <;> iassumption
  iintro HO
  iapply (barWait_wp fx fw c (late_R1 c)) $$ [Hc Hat HO]
  · isplitr; · iexact HS
    isplitl [Hc]; · iexact Hc
    isplitl [Hat] <;> iassumption
  iexact Hk

/-- A column sent from slot `b` to the device `r + 1` places on. -/
theorem sendStep_wp {α : Type} {kk : PUnit → KProg F α} {Q : α → sProp 𝕄} (b : Fin 2) (r : Fin 3) (n : Dev nD) (hn : n = fwd r c) (k : ℕ) (hk : k < 2 - b.val)
    (O : CellTallies nD τ sig Unit) :
    iprop(shared fx fw ∗ sAt c b (siluK (fx c) (fw c) (fwd r c).val) ∗ (∃ f, oPts (fwd r c) c f)
        ∗ dutyTok ER (sendCell b c) k 0 ∗ reached ER (sendCell b c) k ∗ dutyTok ER (recvCell r (fwd r c)) 0 0
        ∗ owesSome c (O + tallyAt (recvCell r (fwd r c)) () N))
      ⊢ iprop((cred (tallyAt (sendCell b c) () N) ∗ owesSome c O -∗ WP c (kk ⟨⟩) Q) -∗ WP c (sendStep b r c n >>= kk) Q) := by
  subst hn
  unfold sendStep
  simp only [Prog.lift, Prog.bind_op, Prog.bind_ret, Prog.pure_eq_ret]
  unfold shared cinv owesSome sAt
  iintro ⟨⟨#HB, #HS, #HR, #hB, #hS, #hR, -⟩, ⟨%f, %hf, Hs⟩, ⟨%g, Hd⟩, Ht, Hr, Ht', ⟨%W, HO⟩⟩ Hk
  ihave HI := HS $$ %b %c
  icases HI with ⟨%κ, #HI⟩
  ihave HI' := HR $$ %r %(fwd r c)
  icases HI' with ⟨%κ', #HI'⟩
  have hpay : iprop((oRow c).view.loc (fwd r c : Thread nD τ) ↦[(oRow c).view.set]{fullShare} ((oRow c).view.write (Elt F) g ((sSlot b).view.read (Elt F) f) Finset.univ))
      ⊢ (Rd fx fw).payload (recvCell r (fwd r c)) 0 0 := by
    rw [payload_recv]; unfold recvPay oDone; rw [bwd_fwd]
    iintro H
    iexists _
    isplitr
    pick_goal 2
    · iexact H
    ipureintro
    exact (View.read_write_univ _ _).trans (slot_read _ _ _ b f hf)
  have hpay' : iprop((sSlot b).view.loc (c : Thread nD τ) ↦[(sSlot b).view.set]{fullShare} f) ⊢ (Rd fx fw).payload (sendCell b c) k 0 := by
    rw [payload_send]; unfold sendPay
    iintro H
    iexists f; iexact H
  have hd₁ : (0 : Fin 3) ∈ (Rd fx fw).duties ((c : Thread nD τ), .dma (sSem b)) k := by rw [duties_send fx fw b c k hk]; exact Finset.mem_singleton_self _
  have hd₂ : (0 : Fin 3) ∈ (Rd fx fw).duties ((fwd r c : Thread nD τ), .dma (rSem r)) 0 := by rw [duties_recv fx fw r (fwd r c)]; exact Finset.mem_singleton_self _
  have hN : (oRow c).view.amount (.dma (rSem r)) = N := rfl
  have key := Rounds.wp_send_pointsTo (Γ := .empty) (defs := defs₀ (F := F)) (α := α) (Q := Q) 𝒱₀ ER (Rd fx fw) (c : Thread nD τ) none (c' := (fwd r c : Thread nD τ)) (src := sSlot b) (dst := oRow c)
    (sS := .dma (sSem b)) (sem := .dma (rSem r)) (q := fullShare) (fs := f) (κ₁ := κ) (κ₂ := κ') (r₁ := k) (r₂ := 0) (d₁ := 0) (d₂ := 0) (fd := g)
    (hsc := rfl)
    (hsrc := (((Memref.isWhole_whole cc0_scratch4).wordExact_slice rfl _ (wordsS b)).reshape _ _))
    (hdst := ((Memref.isWhole_whole main_v1).wordExact_slice rfl _ (k0_off14_wordsbf16 c))) (hsem := ⟨⟨rfl, Or.inl rfl⟩, trivial⟩)
    hd₁ hd₂ () () N hN (amount_send fx fw b c k 0) (amount_recv fx fw r (fwd r c) 0 0) O rfl (W := W) hpay' hpay (Topo.routes_tc c (fwd r c)) (k := fun x => kk x) (Es := Set.univ)
  iapply key $$ [Hs Hd HO Ht Hr Ht']
  · isplitr; · iexact HI
    isplitr; · iexact HI'
    isplitl [Hs]; · iexact Hs
    isplitl [Hd]; · iexact Hd
    isplitl [HO]; · iexact HO
    isplitl [Ht]; · iexact Ht
    isplitl [Hr]; · iexact Hr
    isplitl [Ht']; · iexact Ht'
    iapply hR
  iintro ⟨Hc, HO⟩
  iapply Hk
  isplitl [Hc]; · iexact Hc
  iexists W; iexact HO

/-- The wait for a sent column: its slot back. -/
theorem sentWait_wp {α : Type} {kk : PUnit → KProg F α} {Q : α → sProp 𝕄} (b : Fin 2) (k : ℕ) (hk : k < 2 - b.val) {O : CellTallies nD τ sig Unit} (hO : Late O) :
    iprop(shared fx fw ∗ cred (tallyAt (sendCell b c) () N) ∗ atPos ER (sendCell b c) k ∅ 0 ∗ owesSome c O)
      ⊢ iprop(((∃ f, sPts c b f) ∗ atPos ER (sendCell b c) (k + 1) ∅ 0 ∗ reached ER (sendCell b c) (k + 1) ∗ owesSome c O -∗ WP c (kk ⟨⟩) Q)
        -∗ WP c (sentWait b c >>= kk) Q) := by
  unfold sentWait
  simp only [Prog.lift, Prog.bind_op, Prog.bind_ret, Prog.pure_eq_ret]
  unfold shared cinv owesSome
  iintro ⟨⟨#HB, #HS, #HR, #hB, #hS, #hR, #HL⟩, Hc, Hat, ⟨%W, HO⟩⟩ Hk
  ihave HI := HS $$ %b %c
  icases HI with ⟨%κ, #HI⟩
  iapply (Rounds.wp_wait_rest_token 𝒱₀ ER (Rd fx fw) (c : Thread nD τ) none (κ := κ)
      (wpE_waitDma2_eq 𝒱₀ (c : Thread nD τ) none Set.univ) (Set.mem_univ _) () (O := O) (W := W) (R := k) (m := 0) (T := ∅)
      (by rw [Nat.zero_add, expect_send fx fw b c k hk])) $$ [Hc HO Hat]
  · isplitr; · iexact HI
    isplitl [Hc]; · iexact Hc
    isplitl [HO]; · iexact HO
    isplitr; · iapply (mayWait_late c _ (sSem_ne b) hO); iexact HL
    iexact Hat
  iintro ⟨HO, Hat, Hr, Hpay⟩
  ihave Hp := (Entails.of_eq (rest_send fx fw b c k hk)) $$ Hpay
  unfold sendPay
  iapply Hk
  isplitl [Hp]; · iexact Hp
  isplitl [Hat]; · iexact Hat
  isplitl [Hr]; · iexact Hr
  iexists _; iexact HO

/-- The wait for the column of the device `r + 1` places before. -/
theorem recvWait_wp {α : Type} {kk : PUnit → KProg F α} {Q : α → sProp 𝕄} (r : Fin 3) {o : Fin 2 → Nat} {ho : InB o S2048x1024.size S8192x1024.size}
    {hw : (Rect.unit (s := S8192x1024) o S2048x1024.size ho).WholeWords (EltTy.packing .bf16)} :
    iprop(shared fx fw ∗ cred (tallyAt (recvCell r c) () N) ∗ atPos ER (recvCell r c) 0 ∅ 0 ∗ owesSome c 0)
      ⊢ iprop((oDone fx fw c (bwd r c) ∗ atPos ER (recvCell r c) 1 ∅ 0 ∗ owesSome c 0 -∗ WP c (kk ⟨⟩) Q)
        -∗ WP c (recvWait r c o ho hw >>= kk) Q) := by
  unfold recvWait
  simp only [Prog.lift, Prog.bind_op, Prog.bind_ret, Prog.pure_eq_ret]
  unfold shared cinv owesSome
  iintro ⟨⟨#HB, #HS, #HR, #hB, #hS, #hR, #HL⟩, Hc, Hat, ⟨%W, HO⟩⟩ Hk
  ihave HI := HR $$ %r %c
  icases HI with ⟨%κ, #HI⟩
  iapply (Rounds.wp_wait_rest_token 𝒱₀ ER (Rd fx fw) (c : Thread nD τ) none (κ := κ)
      (wpE_waitDma2_eq 𝒱₀ (c : Thread nD τ) none Set.univ) (Set.mem_univ _) () (O := 0) (W := W) (R := 0) (m := 0) (T := ∅)
      (by rw [Nat.zero_add, expect_recv, oBlk_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv fx fw r c)) $$ Hpay
  unfold recvPay
  iapply Hk
  isplitl [Hp]; · iexact Hp
  isplitl [Hat]; · iexact Hat
  iexists _; iexact HO

/-- The device's own column, in flight from slot 1. -/
def keptFly : sProp 𝕄 :=
  Transfers.Flight EC (c : Thread nD τ) (.dma lSem) () N iprop(oDone fx fw c c ∗ ∃ f, sPts c 1 f)

/-- The device's own column is put in flight to its own rows. -/
theorem keepStep_wp {α : Type} {kk : PUnit → KProg F α} {Q : α → sProp 𝕄} :
    iprop(sAt c 1 (siluK (fx c) (fw c) c.val) ∗ (∃ f, oPts c c f) ∗ semVal ((c : Thread nD τ), .dma lSem) 0)
      ⊢ iprop((keptFly fx fw c -∗ WP c (kk ⟨⟩) Q) -∗ WP c (keepStep c >>= kk) Q) := by
  unfold keepStep sAt
  simp only [Prog.lift, Prog.bind_op, Prog.bind_ret]
  iintro ⟨⟨%f, %hf, Hs⟩, ⟨%g, Hd⟩, Hv⟩ Hk
  have hm : iprop(((oRow c).view.loc (c : Thread nD τ) ↦[(oRow c).view.set]{fullShare} ((oRow c).view.write (Elt F) g ((sSlot 1).view.read (Elt F) f) Finset.univ))
        ∗ ((sSlot 1).view.loc (c : Thread nD τ) ↦[(sSlot 1).view.set]{fullShare} f))
      ⊢ (iprop(oDone fx fw c c ∗ ∃ f, sPts c 1 f) : sProp 𝕄) := by
    unfold oDone
    iintro ⟨H, Hs⟩
    isplitl [H]
    · iexists _
      isplitr
      pick_goal 2
      · iexact H
      ipureintro
      exact (View.read_write_univ _ _).trans (slot_read _ _ _ 1 f hf)
    · iexists f; iexact Hs
  iapply (Transfers.wp_dmaLocal EC 𝒱₀ (c : Thread nD τ) none () N rfl N_pos (Finset.Subset.refl (oRow c).view.set)) $$ [Hs Hd Hv]
  · isplitl [Hs]; · iexact Hs
    isplitl [Hd]; · iexact Hd
    iexact Hv
  iintro Hf
  iapply Hk
  unfold keptFly
  iapply (Transfers.Flight_mono EC (c : Thread nD τ) hm) $$ Hf

/-- The wait for it hands back the rows, with the column, and the slot. -/
theorem keptWait_wp {α : Type} {kk : PUnit → KProg F α} {Q : α → sProp 𝕄} :
    iprop(keptFly fx fw c ∗ owesSome c 0)
      ⊢ iprop((oDone fx fw c c ∗ (∃ f, sPts c 1 f) ∗ semVal ((c : Thread nD τ), .dma lSem) 0 ∗ owesSome c 0 -∗ WP c (kk ⟨⟩) Q)
        -∗ WP c (keptWait c >>= kk) Q) := by
  unfold keptWait
  simp only [Prog.lift, Prog.bind_op, Prog.bind_ret]
  unfold keptFly owesSome
  iintro ⟨Hf, ⟨%W, HO⟩⟩ Hk
  iapply (Transfers.wp_waitLocalO EC 𝒱₀ (c : Thread nD τ) none () rfl (O := 0) (W := W)) $$ [Hf HO]
  · isplitl [Hf]; · iexact Hf
    isplitl [HO]; · iexact HO
    rw [MayWait_zero]; iempintro
  iintro ⟨⟨Hd, Hs⟩, Hv, HO⟩
  iapply Hk
  isplitl [Hd]; · iexact Hd
  isplitl [Hs]; · iexact Hs
  isplitl [Hv]; · iexact Hv
  iexists _; iexact HO

end Comm

end Cert.KernelProof

end
-- ==== Proof.Body.lean ====
/- The whole body of a device: from what it holds at launch to its result complete, its inputs and
   buffers back and every semaphore at zero. -/
module

public import proofs.«01_k».proof.Proof.Comm

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (fx : Dev nD → XC F) (fw : Dev nD → WC F) (c : Dev nD)

/-- The two halves of the full share: the copies of either slot read the array under one of them. -/
abbrev qa : PosShare TreeShare := fullShare.left
abbrev qb : PosShare TreeShare := fullShare.right

abbrev anyBuf (b : Ref sig .tc) : sProp 𝕄 := iprop(∃ f : Buf (Elt F) ((c : Thread nD τ).loc b), ((c : Thread nD τ).loc b) ↦{fullShare} f)

/-- The scratch buffers, at some contents. -/
def scratch : sProp 𝕄 :=
  iprop(anyBuf c cc0_scratch0 ∗ anyBuf c cc0_scratch1 ∗ anyBuf c cc0_scratch2 ∗ anyBuf c cc0_scratch3 ∗ anyBuf c cc0_scratch4)

/-- The semaphores of the copies within the device, at zero. -/
def ownZero : sProp 𝕄 :=
  iprop(semVal ((c : Thread nD τ), .dma (xSem 0)) 0 ∗ semVal ((c : Thread nD τ), .dma (xSem 1)) 0 ∗ semVal ((c : Thread nD τ), .dma (wSem 0)) 0
    ∗ semVal ((c : Thread nD τ), .dma (wSem 1)) 0 ∗ semVal ((c : Thread nD τ), .dma lSem) 0)
/-- The semaphores between devices, at zero. -/
def crossZero : sProp 𝕄 :=
  iprop(semVal (barCell c) 0 ∗ semVal (sendCell 0 c) 0 ∗ semVal (sendCell 1 c) 0 ∗ semVal (recvCell 0 c) 0 ∗ semVal (recvCell 1 c) 0 ∗ semVal (recvCell 2 c) 0)

/-- Its positions on its own cells. -/
def posns : sProp 𝕄 :=
  iprop(atPos ER (barCell c) 0 ∅ 0 ∗ atPos ER (sendCell 0 c) 0 ∅ 0 ∗ atPos ER (sendCell 1 c) 0 ∅ 0
    ∗ atPos ER (recvCell 0 c) 0 ∅ 0 ∗ atPos ER (recvCell 1 c) 0 ∅ 0 ∗ atPos ER (recvCell 2 c) 0 ∅ 0)
/-- The tokens of the duties it pays. -/
def payToks : sProp 𝕄 :=
  iprop((dutyTok ER (barCell (fwd 0 c)) 0 0 ∗ dutyTok ER (barCell (fwd 1 c)) 0 1 ∗ dutyTok ER (barCell (fwd 2 c)) 0 2)
    ∗ (dutyTok ER (recvCell 0 (fwd 0 c)) 0 0 ∗ dutyTok ER (recvCell 1 (fwd 1 c)) 0 0 ∗ dutyTok ER (recvCell 2 (fwd 2 c)) 0 0)
    ∗ dutyTok ER (sendCell 0 c) 0 0 ∗ dutyTok ER (sendCell 0 c) 1 0 ∗ dutyTok ER (sendCell 1 c) 0 0)
/-- The credit its waits spend. -/
def credits : sProp 𝕄 :=
  iprop(cred (tallyAt (barCell c) () 3) ∗ cred (tallyAt (recvCell 0 c) () N) ∗ cred (tallyAt (recvCell 1 c) () N) ∗ cred (tallyAt (recvCell 2 c) () N))

/-- Its arrays at launch. -/
def arrs : sProp 𝕄 :=
  iprop((((c : Thread nD τ).loc main_arg0) ↦{fullShare} fx c) ∗ (((c : Thread nD τ).loc main_arg1) ↦{fullShare} fw c) ∗ anyBuf c main_v1)
/-- Its arrays at the end: the result's rows by the device that computed them. -/
def arrsDone : sProp 𝕄 :=
  iprop((((c : Thread nD τ).loc main_arg0) ↦{fullShare} fx c) ∗ (((c : Thread nD τ).loc main_arg1) ↦{fullShare} fw c)
    ∗ oDone fx fw c c ∗ oDone fx fw c (bwd 0 c) ∗ oDone fx fw c (bwd 1 c) ∗ oDone fx fw c (bwd 2 c))

def bodyPre : sProp 𝕄 :=
  iprop(shared fx fw ∗ posns c ∗ payToks c ∗ credits c ∗ ownZero c ∗ arrs fx fw c ∗ scratch c ∗ owesSome c (O₀ c))
def bodyPost : sProp 𝕄 :=
  iprop(crossZero c ∗ ownZero c ∗ arrsDone fx fw c ∗ scratch c ∗ owesSome c 0)

/-- The result's rows, by the device that fills them. -/
theorem rows_cut (f : Buf (Elt F) (oH.view.loc (c : Thread nD τ))) :
    (oH.view.loc (c : Thread nD τ) ↦{fullShare} f : sProp 𝕄)
      ⊢ iprop((∃ f, oPts c c f) ∗ (∃ f, oPts c (fwd 0 c) f) ∗ (∃ f, oPts c (fwd 1 c) f) ∗ (∃ f, oPts c (fwd 2 c) f)) := by
  have ne : ∀ r r' : Fin 3, r ≠ r' → fwd r c ≠ fwd r' c := fun r r' h h' => h (fwd_inj c h')
  have s0 : (oRow (fwd 0 c)).view.set ⊆ Finset.univ \ (oRow c).view.set :=
    Finset.subset_sdiff.mpr ⟨Finset.subset_univ _, oRow_disj (fwd_ne 0 c)⟩
  have s1 : (oRow (fwd 1 c)).view.set ⊆ (Finset.univ \ (oRow c).view.set) \ (oRow (fwd 0 c)).view.set :=
    Finset.subset_sdiff.mpr ⟨Finset.subset_sdiff.mpr ⟨Finset.subset_univ _, oRow_disj (fwd_ne 1 c)⟩, oRow_disj (ne 1 0 (by decide))⟩
  have s2 : (oRow (fwd 2 c)).view.set ⊆ ((Finset.univ \ (oRow c).view.set) \ (oRow (fwd 0 c)).view.set) \ (oRow (fwd 1 c)).view.set :=
    Finset.subset_sdiff.mpr ⟨Finset.subset_sdiff.mpr ⟨Finset.subset_sdiff.mpr ⟨Finset.subset_univ _, oRow_disj (fwd_ne 2 c)⟩, oRow_disj (ne 2 0 (by decide))⟩,
      oRow_disj (ne 2 1 (by decide))⟩
  iintro H
  ihave H := (pointsTo_split_subset (Finset.subset_univ (oRow c).view.set)).1 $$ H
  icases H with ⟨Hc, H⟩
  ihave H := (pointsTo_split_subset s0).1 $$ H
  icases H with ⟨H0, H⟩
  ihave H := (pointsTo_split_subset s1).1 $$ H
  icases H with ⟨H1, H⟩
  ihave H := (pointsTo_split_subset s2).1 $$ H
  icases H with ⟨H2, -⟩
  isplitl [Hc]; · iexists f; iexact Hc
  isplitl [H0]; · iexists f; iexact H0
  isplitl [H1]; · iexists f; iexact H1
  iexists f; iexact H2

/-- The cells between devices close. -/
theorem close_all :
    iprop(shared fx fw ∗ atPos ER (barCell c) 1 ∅ 0 ∗ atPos ER (sendCell 0 c) 2 ∅ 0 ∗ atPos ER (sendCell 1 c) 1 ∅ 0
        ∗ atPos ER (recvCell 0 c) 1 ∅ 0 ∗ atPos ER (recvCell 1 c) 1 ∅ 0 ∗ atPos ER (recvCell 2 c) 1 ∅ 0)
      ⊢ |={Set.univ}=> crossZero c := by
  have key : ∀ (g : GSem nD τ sig) (n : ℕ) (hn : rnds g.2 ≤ n), iprop(cinv fx fw g ∗ atPos ER g n ∅ 0) ⊢ (|={Set.univ}=> semVal g 0 : sProp 𝕄) := by
    intro g n hn
    unfold cinv
    iintro ⟨⟨%κ, HI⟩, Hat⟩
    iapply (Rounds.cell_close ER (Rd fx fw) (Set.mem_univ κ) (fun h => h) (R := n) (duties_later fx fw g n hn))
    isplitl [HI] <;> iassumption
  unfold shared crossZero
  iintro ⟨⟨#HB, #HS, #HR, -⟩, HaB, Ha0, Ha1, Hr0, Hr1, Hr2⟩
  imod (key (barCell c) 1 (show rnds (.reg barS) ≤ 1 by decide)) $$ [HaB] with HzB
  · isplitr; · iapply HB
    iexact HaB
  imod (key (sendCell 0 c) 2 (show rnds (.dma (sSem 0)) ≤ 2 by decide)) $$ [Ha0] with Hz0
  · isplitr; · iapply HS
    iexact Ha0
  imod (key (sendCell 1 c) 1 (show rnds (.dma (sSem 1)) ≤ 1 by decide)) $$ [Ha1] with Hz1
  · isplitr; · iapply HS
    iexact Ha1
  imod (key (recvCell 0 c) 1 (show rnds (.dma (rSem 0)) ≤ 1 by decide)) $$ [Hr0] with Hy0
  · isplitr; · iapply HR
    iexact Hr0
  imod (key (recvCell 1 c) 1 (show rnds (.dma (rSem 1)) ≤ 1 by decide)) $$ [Hr1] with Hy1
  · isplitr; · iapply HR
    iexact Hr1
  imod (key (recvCell 2 c) 1 (show rnds (.dma (rSem 2)) ≤ 1 by decide)) $$ [Hr2] with Hy2
  · isplitr; · iapply HR
    iexact Hr2
  imodintro
  isplitl [HzB]; · iexact HzB
  isplitl [Hz0]; · iexact Hz0
  isplitl [Hz1]; · iexact Hz1
  isplitl [Hy0]; · iexact Hy0
  isplitl [Hy1] <;> iassumption

/-- The slots, arrays and buffers as the columns hold them. -/
def held : sProp 𝕄 :=
  iprop((∃ V, xGot c qa (fx c) 0 V) ∗ (∃ V, xGot c qb (fx c) 1 V) ∗ (∃ V, wGot c qa (fw c) 0 V) ∗ (∃ V, wGot c qb (fw c) 1 V)
    ∗ accAny c ∗ (∃ f, sPts c 0 f) ∗ (∃ f, sPts c 1 f))

/-- At launch the arrays are split in two shares, the buffers in two slots, and no block of `x` is converted. -/
theorem held_intro :
    iprop((((c : Thread nD τ).loc main_arg0) ↦{fullShare} fx c) ∗ (((c : Thread nD τ).loc main_arg1) ↦{fullShare} fw c)
        ∗ semVal ((c : Thread nD τ), .dma (xSem 0)) 0 ∗ semVal ((c : Thread nD τ), .dma (xSem 1)) 0 ∗ semVal ((c : Thread nD τ), .dma (wSem 0)) 0
        ∗ semVal ((c : Thread nD τ), .dma (wSem 1)) 0 ∗ scratch c)
      ⊢ (iprop(held fx fw c ∗ xvAt c (fx c) 0) : sProp 𝕄) := by
  unfold scratch held xGot wGot xAt wAt accAny xvAt anyBuf
  iintro ⟨Hx, Hw, X0, X1, W0, W1, ⟨%f0, S0⟩, ⟨%f1, S1⟩, ⟨%f2, S2⟩, S3, ⟨%f4, S4⟩⟩
  ihave Hx := (pointsTo_share (PosShare.mem_left_op_right fullShare)).1 $$ Hx
  icases Hx with ⟨Hx0, Hx1⟩
  ihave Hw := (pointsTo_share (PosShare.mem_left_op_right fullShare)).1 $$ Hw
  icases Hw with ⟨Hw0, Hw1⟩
  ihave S1 := (cut_two xSlot_disj xSlot_cover f1) $$ S1
  icases S1 with ⟨S10, S11⟩
  ihave S2 := (cut_two wSlot_disj wSlot_cover f2) $$ S2
  icases S2 with ⟨S20, S21⟩
  ihave S4 := (cut_two sSlot_disj sSlot_cover f4) $$ S4
  icases S4 with ⟨S40, S41⟩
  isplitr [S0]
  · isplitl [S10 X0 Hx0]
    · iexists _
      isplitl [S10]
      · iexists f1; isplitr; · ipureintro; rfl
        iexact S10
      isplitl [X0] <;> iassumption
    isplitl [S11 X1 Hx1]
    · iexists _
      isplitl [S11]
      · iexists f1; isplitr; · ipureintro; rfl
        iexact S11
      isplitl [X1] <;> iassumption
    isplitl [S20 W0 Hw0]
    · iexists _
      isplitl [S20]
      · iexists f2; isplitr; · ipureintro; rfl
        iexact S20
      isplitl [W0] <;> iassumption
    isplitl [S21 W1 Hw1]
    · iexists _
      isplitl [S21]
      · iexists f2; isplitr; · ipureintro; rfl
        iexact S21
      isplitl [W1] <;> iassumption
    isplitl [S3]; · iexact S3
    isplitl [S40]; · iexists f4; iexact S40
    iexists f4; iexact S41
  · iexists f0
    isplitr; · ipureintro; intro i hi; exact absurd hi (by omega)
    iexact S0

/-- At the end the shares and the slots are put together again. -/
theorem held_elim :
    iprop(held fx fw c ∗ xvAt c (fx c) 16)
      ⊢ (iprop((((c : Thread nD τ).loc main_arg0) ↦{fullShare} fx c) ∗ (((c : Thread nD τ).loc main_arg1) ↦{fullShare} fw c)
        ∗ semVal ((c : Thread nD τ), .dma (xSem 0)) 0 ∗ semVal ((c : Thread nD τ), .dma (xSem 1)) 0 ∗ semVal ((c : Thread nD τ), .dma (wSem 0)) 0
        ∗ semVal ((c : Thread nD τ), .dma (wSem 1)) 0 ∗ scratch c) : sProp 𝕄) := by
  unfold scratch held xGot wGot xAt wAt accAny xvAt anyBuf
  iintro ⟨⟨⟨%V0, ⟨%g0, -, S10⟩, X0, Hx0⟩, ⟨%V1, ⟨%g1, -, S11⟩, X1, Hx1⟩, ⟨%V2, ⟨%g2, -, S20⟩, W0, Hw0⟩, ⟨%V3, ⟨%g3, -, S21⟩, W1, Hw1⟩,
    S3, ⟨%h0, S40⟩, ⟨%h1, S41⟩⟩, ⟨%f0, -, S0⟩⟩
  isplitl [Hx0 Hx1]
  · iapply (pointsTo_share (PosShare.mem_left_op_right fullShare)).2
    isplitl [Hx0] <;> iassumption
  isplitl [Hw0 Hw1]
  · iapply (pointsTo_share (PosShare.mem_left_op_right fullShare)).2
    isplitl [Hw0] <;> iassumption
  isplitl [X0]; · iexact X0
  isplitl [X1]; · iexact X1
  isplitl [W0]; · iexact W0
  isplitl [W1]; · iexact W1
  isplitl [S0]; · iexists f0; iexact S0
  isplitl [S10 S11]
  · iapply (join_two xSlot_disj xSlot_cover g0 g1)
    isplitl [S10] <;> iassumption
  isplitl [S20 S21]
  · iapply (join_two wSlot_disj wSlot_cover g2 g3)
    isplitl [S20] <;> iassumption
  isplitl [S3]; · iexact S3
  iapply (join_two sSlot_disj sSlot_cover h0 h1)
  isplitl [S40] <;> iassumption

/-- A column's end and the next one's start: the last accumulator activated into slot `b`, the slot sent. -/
theorem seg_wp (b : Fin 2) (r : Fin 3) (n : Dev nD) (hn : n = fwd r c) (k : ℕ) (hk : k < 2 - b.val) (j : ℕ) (O O' : CellTallies nD τ sig Unit)
    (hO : O' = O + tallyAt (recvCell r (fwd r c)) () N) (hl : Late O)
    {w0 w1 w2 w3 : Fin 2 → ℕ} {h0 : InB w0 S512x1024.size S8192x4096.size} {h1 : InB w1 S512x1024.size S8192x4096.size}
    {h2 : InB w2 S512x1024.size S8192x4096.size} {h3 : InB w3 S512x1024.size S8192x4096.size}
    (e2 : w2 = wOff 2 j) (e3 : w3 = wOff 3 j) {α : Type} {kk : PUnit → KProg F α} {Q : α → sProp 𝕄} :
    iprop(shared fx fw ∗ wFly c qa (fw c) 0 0 j ∗ wFly c qb (fw c) 1 1 j ∗ accAt c (fx c) (fw c) (fwd r c).val 15 ∗ xvAt c (fx c) 16 ∗ owesSome c O'
        ∗ (∃ f, sPts c b f) ∗ (∃ f, oPts (fwd r c) c f) ∗ dutyTok ER (sendCell b c) k 0 ∗ reached ER (sendCell b c) k ∗ dutyTok ER (recvCell r (fwd r c)) 0 0)
      ⊢ iprop((cred (tallyAt (sendCell b c) () N) ∗ colI c qa qb (fx c) (fw c) O j 0 -∗ WP c (kk ⟨⟩) Q)
        -∗ WP c (siluStep b >>= fun _ => sendStep b r c n >>= fun _ => headN w0 w1 w2 w3 h0 h1 h2 h3 >>= kk) Q) := by
  subst hO
  iintro ⟨#HS, Hw0, Hw1, Ha, Hx, HO, ⟨%f, Hs⟩, Hd, Ht, Hr, Ht'⟩ Hk
  iapply (siluStep_wp c (fwd r c).val) $$ [Hs Ha]
  · isplitl [Hs] <;> iassumption
  iintro ⟨Hs, Ha⟩
  iapply (sendStep_wp fx fw c b r n hn k hk O) $$ [Hs Hd Ht Hr Ht' HO]
  · isplitr; · iexact HS
    isplitl [Hs]; · iexact Hs
    isplitl [Hd]; · iexact Hd
    isplitl [Ht]; · iexact Ht
    isplitl [Hr]; · iexact Hr
    isplitl [Ht'] <;> iassumption
  iintro ⟨Hc, HO⟩
  iapply (headN_wp c j e2 e3) $$ [Hw0 Hw1 Ha Hx HO]
  · isplitl [Hw0]; · iexact Hw0
    isplitl [Hw1]; · iexact Hw1
    isplitl [Ha]; · iexact Ha
    isplitl [Hx]; · iexact Hx
    isplitl [HO]; · iexact HO
    unfold shared
    icases HS with ⟨-, -, -, -, -, -, HL⟩
    iapply (mayLocal_late c hl); iexact HL
  iintro H
  iapply Hk
  isplitl [Hc] <;> iassumption

/-- The handshake and the first column up to its loop: the rows of the three peers are received, the device's own given away. -/
theorem seg0_wp {α : Type} {kk : PUnit → KProg F α} {Q : α → sProp 𝕄} :
    iprop(shared fx fw ∗ ((∃ f, oPts c (fwd 0 c) f) ∗ (∃ f, oPts c (fwd 1 c) f) ∗ (∃ f, oPts c (fwd 2 c) f))
        ∗ (dutyTok ER (barCell (fwd 0 c)) 0 0 ∗ dutyTok ER (barCell (fwd 1 c)) 0 1 ∗ dutyTok ER (barCell (fwd 2 c)) 0 2)
        ∗ cred (tallyAt (barCell c) () 3) ∗ atPos ER (barCell c) 0 ∅ 0 ∗ owesSome c (O₀ c)
        ∗ (∃ V, xGot c qa (fx c) 0 V) ∗ (∃ V, xGot c qb (fx c) 1 V) ∗ (∃ V, wGot c qa (fw c) 0 V) ∗ (∃ V, wGot c qb (fw c) 1 V) ∗ accAny c ∗ xvAt c (fx c) 0)
      ⊢ iprop(((∃ f, oPts (fwd 0 c) c f) ∗ (∃ f, oPts (fwd 1 c) c f) ∗ (∃ f, oPts (fwd 2 c) c f) ∗ atPos ER (barCell c) 1 ∅ 0
            ∗ colX c qa qb (fx c) (fw c) (R1 c) (fwd 0 c).val 0 -∗ WP c (kk ⟨⟩) Q) -∗ WP c (seg0 c >>= kk) Q) := by
  unfold seg0
  simp only [bind_assoc]
  iintro ⟨#HS, Ho, Ht, Hc, Hat, HO, X0, X1, W0, W1, Ha, Hx⟩ Hk
  iapply (handshake_wp fx fw c) $$ [Ho Ht Hc Hat HO]
  · isplitr; · iexact HS
    isplitl [Ho]; · iexact Ho
    isplitl [Ht]; · iexact Ht
    isplitl [Hc]; · iexact Hc
    isplitl [Hat] <;> iassumption
  iintro ⟨P0, P1, P2, Hat, HO⟩
  iapply (head1_wp c) $$ [X0 X1 W0 W1 Ha Hx HO]
  · isplitl [X0]; · iexact X0
    isplitl [X1]; · iexact X1
    isplitl [W0]; · iexact W0
    isplitl [W1]; · iexact W1
    isplitl [Ha]; · iexact Ha
    isplitl [Hx]; · iexact Hx
    isplitl [HO]; · iexact HO
    unfold shared
    icases HS with ⟨-, -, -, -, -, -, HL⟩
    iapply (mayLocal_late c (late_R1 c)); iexact HL
  iintro H
  iapply Hk
  isplitl [P0]; · iexact P0
  isplitl [P1]; · iexact P1
  isplitl [P2]; · iexact P2
  isplitl [Hat] <;> iassumption

/-- The end of the body: the own column activated and copied, then the waits for the sends, the own copy and the three arrivals. -/
theorem tail_wp {α : Type} {kk : PUnit → KProg F α} {Q : α → sProp 𝕄} :
    iprop(shared fx fw ∗ accAt c (fx c) (fw c) c.val 15 ∗ owesSome c 0 ∗ (∃ f, oPts c c f) ∗ semVal ((c : Thread nD τ), .dma lSem) 0
        ∗ cred (tallyAt (sendCell 1 c) () N) ∗ atPos ER (sendCell 1 c) 0 ∅ 0
        ∗ cred (tallyAt (sendCell 0 c) () N) ∗ atPos ER (sendCell 0 c) 1 ∅ 0
        ∗ (cred (tallyAt (recvCell 0 c) () N) ∗ cred (tallyAt (recvCell 1 c) () N) ∗ cred (tallyAt (recvCell 2 c) () N))
        ∗ (atPos ER (recvCell 0 c) 0 ∅ 0 ∗ atPos ER (recvCell 1 c) 0 ∅ 0 ∗ atPos ER (recvCell 2 c) 0 ∅ 0))
      ⊢ iprop((accAny c ∗ (∃ f, sPts c 0 f) ∗ (∃ f, sPts c 1 f) ∗ semVal ((c : Thread nD τ), .dma lSem) 0
            ∗ (oDone fx fw c c ∗ oDone fx fw c (bwd 0 c) ∗ oDone fx fw c (bwd 1 c) ∗ oDone fx fw c (bwd 2 c))
            ∗ atPos ER (sendCell 0 c) 2 ∅ 0 ∗ atPos ER (sendCell 1 c) 1 ∅ 0
            ∗ (atPos ER (recvCell 0 c) 1 ∅ 0 ∗ atPos ER (recvCell 1 c) 1 ∅ 0 ∗ atPos ER (recvCell 2 c) 1 ∅ 0) ∗ owesSome c 0 -∗ WP c (kk ⟨⟩) Q)
        -∗ WP c (tail4 c >>= kk) Q) := by
  unfold tail4
  simp only [bind_assoc]
  iintro ⟨#HS, Ha, HO, Hd, Hl, C1, A1, C0, A0, ⟨D0, D1, D2⟩, ⟨E0, E1, E2⟩⟩ Hk
  iapply (sentWait_wp fx fw c 1 0 (by decide) late_zero) $$ [C1 A1 HO]
  · isplitr; · iexact HS
    isplitl [C1]; · iexact C1
    isplitl [A1] <;> iassumption
  iintro ⟨⟨%f, Hs⟩, A1, -, HO⟩
  iapply (siluStep_wp c c.val) $$ [Hs Ha]
  · isplitl [Hs] <;> iassumption
  iintro ⟨Hs, Ha⟩
  iapply (keepStep_wp fx fw c) $$ [Hs Hd Hl]
  · isplitl [Hs]; · iexact Hs
    isplitl [Hd] <;> iassumption
  iintro Hf
  iapply (sentWait_wp fx fw c 0 1 (by decide) late_zero) $$ [C0 A0 HO]
  · isplitr; · iexact HS
    isplitl [C0]; · iexact C0
    isplitl [A0] <;> iassumption
  iintro ⟨S0, A0, -, HO⟩
  iapply (keptWait_wp fx fw c) $$ [Hf HO]
  · isplitl [Hf] <;> iassumption
  iintro ⟨Hd, S1, Hl, HO⟩
  iapply (recvWait_wp fx fw c 0) $$ [D0 E0 HO]
  · isplitr; · iexact HS
    isplitl [D0]; · iexact D0
    isplitl [E0] <;> iassumption
  iintro ⟨G0, E0, HO⟩
  iapply (recvWait_wp fx fw c 1) $$ [D1 E1 HO]
  · isplitr; · iexact HS
    isplitl [D1]; · iexact D1
    isplitl [E1] <;> iassumption
  iintro ⟨G1, E1, HO⟩
  iapply (recvWait_wp fx fw c 2) $$ [D2 E2 HO]
  · isplitr; · iexact HS
    isplitl [D2]; · iexact D2
    isplitl [E2] <;> iassumption
  iintro ⟨G2, E2, HO⟩
  iapply Hk
  isplitl [Ha]; · iexact Ha
  isplitl [S0]; · iexact S0
  isplitl [S1]; · iexact S1
  isplitl [Hl]; · iexact Hl
  isplitl [Hd G0 G1 G2]
  · isplitl [Hd]; · iexact Hd
    isplitl [G0]; · iexact G0
    isplitl [G1] <;> iassumption
  isplitl [A0]; · iexact A0
  isplitl [A1]; · iexact A1
  isplitl [E0 E1 E2]
  · isplitl [E0]; · iexact E0
    isplitl [E1] <;> iassumption
  iexact HO

set_option maxHeartbeats 1000000 in
/-- The whole body. -/
theorem flow_wp {α : Type} {kk : PUnit → KProg F α} {Q : α → sProp 𝕄} :
    bodyPre fx fw c ⊢ iprop((bodyPost fx fw c -∗ WP c (kk ⟨⟩) Q) -∗ WP c (flow c >>= kk) Q) := by
  unfold flow seg1 seg2 seg3 bodyPre
  simp only [bind_assoc]
  unfold posns payToks credits arrs ownZero
  iintro ⟨#HS, ⟨AB, A0, A1, E0, E1, E2⟩, ⟨TB, ⟨TR0, TR1, TR2⟩, T00, T01, T10⟩, ⟨CB, D0, D1, D2⟩, ⟨Z0, Z1, Z2, Z3, ZL⟩, ⟨Hx, Hw, ⟨%f, Ho⟩⟩, Hsc, HO⟩ Hk
  ihave Hrows := (rows_cut c f) $$ Ho
  icases Hrows with ⟨Oc, O0, O1, O2⟩
  ihave Hh := (held_intro fx fw c) $$ [Hx Hw Z0 Z1 Z2 Z3 Hsc]
  · isplitl [Hx]; · iexact Hx
    isplitl [Hw]; · iexact Hw
    isplitl [Z0]; · iexact Z0
    isplitl [Z1]; · iexact Z1
    isplitl [Z2]; · iexact Z2
    isplitl [Z3] <;> iassumption
  unfold held
  icases Hh with ⟨⟨X0, X1, W0, W1, Ha, S0, S1⟩, Hv⟩
  iapply (seg0_wp fx fw c) $$ [O0 O1 O2 TB CB AB HO X0 X1 W0 W1 Ha Hv]
  · isplitr; · iexact HS
    isplitl [O0 O1 O2]
    · isplitl [O0]; · iexact O0
      isplitl [O1] <;> iassumption
    isplitl [TB]; · iexact TB
    isplitl [CB]; · iexact CB
    isplitl [AB]; · iexact AB
    isplitl [HO]; · iexact HO
    isplitl [X0]; · iexact X0
    isplitl [X1]; · iexact X1
    isplitl [W0]; · iexact W0
    isplitl [W1]; · iexact W1
    isplitl [Ha] <;> iassumption
  iintro ⟨P0, P1, P2, AB, HC⟩
  -- the first column
  iapply (loop1_wp c) $$ HC
  iintro HC
  ihave HC := (colX_end c (fwd 0 c).val) $$ HC
  unfold colEnd
  icases HC with ⟨X0, X1, W0, W1, Ha, Hv, HO⟩
  iapply (ahead_wp c (fwd 1 c).val (off1_eq c 1) (off2_eq c 1)) $$ [W0 W1]
  · isplitl [W0] <;> iassumption
  iintro ⟨W0, W1⟩
  iapply (seg_wp fx fw c 0 0 (dev4 c) (dev4_eq c) 0 (by decide) (fwd 1 c).val (R2 c) (R1 c) rfl (late_R2 c) (off3_eq c 1) (off4_eq c 1)) $$ [W0 W1 Ha Hv HO S0 P0 T00 TR0]
  · isplitr; · iexact HS
    isplitl [W0]; · iexact W0
    isplitl [W1]; · iexact W1
    isplitl [Ha]; · iexact Ha
    isplitl [Hv]; · iexact Hv
    isplitl [HO]; · iexact HO
    isplitl [S0]; · iexact S0
    isplitl [P0]; · iexact P0
    isplitl [T00]; · iexact T00
    isplitr
    · unfold shared
      icases HS with ⟨-, -, -, -, HR, -, -⟩
      iapply HR
    iexact TR0
  iintro ⟨C0, HC⟩
  -- the second column
  iapply (loop2_wp c) $$ HC
  iintro HC
  ihave HC := (colI_end c (fwd 1 c).val) $$ HC
  unfold colEnd
  icases HC with ⟨W0, W1, Ha, Hv, HO⟩
  iapply (ahead_wp c (fwd 2 c).val (off1_eq c 2) (off2_eq c 2)) $$ [W0 W1]
  · isplitl [W0] <;> iassumption
  iintro ⟨W0, W1⟩
  iapply (seg_wp fx fw c 1 1 (dev5 c) (dev5_eq c) 0 (by decide) (fwd 2 c).val (R3 c) (R2 c) rfl (late_R3 c) (off3_eq c 2) (off4_eq c 2)) $$ [W0 W1 Ha Hv HO S1 P1 T10 TR1]
  · isplitr; · iexact HS
    isplitl [W0]; · iexact W0
    isplitl [W1]; · iexact W1
    isplitl [Ha]; · iexact Ha
    isplitl [Hv]; · iexact Hv
    isplitl [HO]; · iexact HO
    isplitl [S1]; · iexact S1
    isplitl [P1]; · iexact P1
    isplitl [T10]; · iexact T10
    isplitr
    · unfold shared
      icases HS with ⟨-, -, -, -, HR, -, -⟩
      iapply HR
    iexact TR1
  iintro ⟨C1, HC⟩
  -- the third column
  iapply (loop3_wp c) $$ HC
  iintro HC
  ihave HC := (colI_end c (fwd 2 c).val) $$ HC
  unfold colEnd
  icases HC with ⟨W0, W1, Ha, Hv, HO⟩
  iapply (ahead_wp c c.val (off25_eq c) (off26_eq c)) $$ [W0 W1]
  · isplitl [W0] <;> iassumption
  iintro ⟨W0, W1⟩
  iapply (sentWait_wp fx fw c 0 0 (by decide) (late_R3 c)) $$ [C0 A0 HO]
  · isplitr; · iexact HS
    isplitl [C0]; · iexact C0
    isplitl [A0] <;> iassumption
  iintro ⟨S0, A0, HR0, HO⟩
  iapply (seg_wp fx fw c 0 2 (dev6 c) (dev6_eq c) 1 (by decide) c.val 0 (R3 c) rfl late_zero (off27_eq c) (off28_eq c)) $$ [W0 W1 Ha Hv HO S0 P2 T01 HR0 TR2]
  · isplitr; · iexact HS
    isplitl [W0]; · iexact W0
    isplitl [W1]; · iexact W1
    isplitl [Ha]; · iexact Ha
    isplitl [Hv]; · iexact Hv
    isplitl [HO]; · iexact HO
    isplitl [S0]; · iexact S0
    isplitl [P2]; · iexact P2
    isplitl [T01]; · iexact T01
    isplitl [HR0] <;> iassumption
  iintro ⟨C0, HC⟩
  -- the device's own column
  iapply (loop4_wp c) $$ HC
  iintro HC
  ihave HC := (colI_end c c.val) $$ HC
  unfold colEnd
  icases HC with ⟨W0, W1, Ha, Hv, HO⟩
  iapply (tail_wp fx fw c) $$ [Ha HO Oc ZL C1 A1 C0 A0 D0 D1 D2 E0 E1 E2]
  · isplitr; · iexact HS
    isplitl [Ha]; · iexact Ha
    isplitl [HO]; · iexact HO
    isplitl [Oc]; · iexact Oc
    isplitl [ZL]; · iexact ZL
    isplitl [C1]; · iexact C1
    isplitl [A1]; · iexact A1
    isplitl [C0]; · iexact C0
    isplitl [A0]; · iexact A0
    isplitl [D0 D1 D2]
    · isplitl [D0]; · iexact D0
      isplitl [D1] <;> iassumption
    isplitl [E0]; · iexact E0
    isplitl [E1] <;> iassumption
  iintro ⟨Ha, S0, S1, ZL, Hdone, A0, A1, ⟨E0, E1, E2⟩, HO⟩
  imod (close_all fx fw c) $$ [AB A0 A1 E0 E1 E2] with Hz
  · isplitr; · iexact HS
    isplitl [AB]; · iexact AB
    isplitl [A0]; · iexact A0
    isplitl [A1]; · iexact A1
    isplitl [E0]; · iexact E0
    isplitl [E1] <;> iassumption
  ihave Hh := (held_elim fx fw c) $$ [X0 X1 W0 W1 Ha S0 S1 Hv]
  · isplitr [Hv]
    · unfold held
      isplitl [X0]; · iexact X0
      isplitl [X1]; · iexact X1
      isplitl [W0]; · iexact W0
      isplitl [W1]; · iexact W1
      isplitl [Ha]; · iexact Ha
      isplitl [S0] <;> iassumption
    iexact Hv
  icases Hh with ⟨Hx, Hw, Z0, Z1, Z2, Z3, Hsc⟩
  iapply Hk
  unfold bodyPost ownZero arrsDone
  isplitl [Hz]; · iexact Hz
  isplitl [Z0 Z1 Z2 Z3 ZL]
  · isplitl [Z0]; · iexact Z0
    isplitl [Z1]; · iexact Z1
    isplitl [Z2]; · iexact Z2
    isplitl [Z3] <;> iassumption
  isplitl [Hx Hw Hdone]
  · isplitl [Hx]; · iexact Hx
    isplitl [Hw] <;> iassumption
  isplitl [Hsc] <;> iassumption

end Body

end Cert.KernelProof

end
-- ==== Proof.Ghost.lean ====
/- The launch's ghost state: the cells opened for all devices at once, the duty tokens dealt to the
   devices that pay them, and the credit of what the devices owe. -/
module

public import proofs.«01_k».proof.Proof.Body

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's scoped semaphores. -/
abbrev osem : Fin 10 → SemLoc sig
  | 0 => .dma (xSem 0) | 1 => .dma (xSem 1) | 2 => .dma (wSem 0) | 3 => .dma (wSem 1) | 4 => .dma (sSem 0) | 5 => .dma (sSem 1)
  | 6 => .dma (rSem 0) | 7 => .dma (rSem 1) | 8 => .dma (rSem 2) | 9 => .dma lSem
/-- The semaphores of the kernel, listed. -/
theorem ownSemFacts : Pipeline.OwnSemFacts cfg0.spec osem := by decide

/-- The six cells of the four devices are different. -/
theorem kcell_injective : Function.Injective (kcell : Dev nD × Fin 6 → GSem nD τ sig) := by
  rintro ⟨c, k⟩ ⟨c', k'⟩ h
  have h1 : c = c' := by have := congrArg (fun g : GSem nD τ sig => g.1.1) h; exact this
  have h2 : k = k' := csem_inj (congrArg Prod.snd h)
  rw [h1, h2]
def allCells : Finset (GSem nD τ sig) := Finset.univ.map ⟨kcell, kcell_injective⟩

/-- A device's own cells' duties: the cell, the round, the duty. -/
abbrev tokC : Fin 9 → Fin 6 := ![0, 0, 0, 3, 4, 5, 1, 1, 2]
abbrev tokR : Fin 9 → ℕ := ![0, 0, 0, 0, 0, 0, 0, 1, 0]
abbrev tokD : Fin 9 → Fin 3 := ![0, 1, 2, 0, 0, 0, 0, 0, 0]
abbrev tokOf (cj : Dev nD × Fin 9) : GSem nD τ sig × ℕ × Fin 3 := (kcell (cj.1, tokC cj.2), tokR cj.2, tokD cj.2)
/-- The nine duties of a device are different. -/
theorem tok_inj : Function.Injective (fun j : Fin 9 => (tokC j, tokR j, tokD j)) := by decide
/-- So are those of all devices. -/
theorem tokOf_injective : Function.Injective (tokOf : Dev nD × Fin 9 → GSem nD τ sig × ℕ × Fin 3) := by
  rintro ⟨c, j⟩ ⟨c', j'⟩ h
  have h1 := kcell_injective (congrArg Prod.fst h)
  have hc : c = c' := congrArg Prod.fst h1
  have hk : tokC j = tokC j' := congrArg Prod.snd h1
  have hr : tokR j = tokR j' := congrArg (fun x => x.2.1) h
  have hd : tokD j = tokD j' := congrArg (fun x => x.2.2) h
  have hj : j = j' := tok_inj (by show (tokC j, tokR j, tokD j) = (tokC j', tokR j', tokD j'); rw [hk, hr, hd])
  rw [hc, hj]
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

/-- The initial state in two parts: the copies', and the cells'. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

section Ghost
variable (fx : Dev nD → XC F) (fw : Dev nD → WC F)

/-- The tokens of the duties of device `c`'s own cells. -/
def toks (c : Dev nD) : sProp 𝕄 :=
  iprop(dutyTok ER (barCell c) 0 0 ∗ dutyTok ER (barCell c) 0 1 ∗ dutyTok ER (barCell c) 0 2
    ∗ dutyTok ER (recvCell 0 c) 0 0 ∗ dutyTok ER (recvCell 1 c) 0 0 ∗ dutyTok ER (recvCell 2 c) 0 0
    ∗ dutyTok ER (sendCell 0 c) 0 0 ∗ dutyTok ER (sendCell 0 c) 1 0 ∗ dutyTok ER (sendCell 1 c) 0 0)

def G (c : Dev nD) : sProp 𝕄 :=
  iprop((bigSep Finset.univ fun k : Fin 6 => roundState ER (Rd fx fw) (kcell (c, k)) 0)
    ∗ (bigSep Finset.univ fun k : Fin 6 => iprop(atPos ER (kcell (c, k)) 0 ∅ 0 ∗ reached ER (kcell (c, k)) 0)) ∗ toks c)

/-- Every cell's invariant, and every cell at round 0 or later. -/
def known : sProp 𝕄 :=
  iprop((bigSep Finset.univ fun ck : Dev nD × Fin 6 => cinv fx fw (kcell ck)) ∗ bigSep Finset.univ fun ck : Dev nD × Fin 6 => reached ER (kcell ck) 0)
instance known_persistent : BI.Persistent (known fx fw) := by unfold known; infer_instance

def G' (c : Dev nD) : sProp 𝕄 := iprop(known fx fw ∗ posns c ∗ payToks c)

/-- Six and nine shares, written out. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What is known of all cells, as the body takes it. -/
theorem known_shared : iprop(known fx fw ∗ levAts L lv) ⊢ shared fx fw := by
  have hi : ∀ ck : Dev nD × Fin 6, (bigSep Finset.univ fun ck : Dev nD × Fin 6 => cinv fx fw (kcell ck)) ⊢ cinv fx fw (kcell ck) := fun ck => bigSep_elim (Finset.mem_univ ck)
  have hr : ∀ ck : Dev nD × Fin 6, (bigSep Finset.univ fun ck : Dev nD × Fin 6 => (reached ER (kcell ck) 0 : sProp 𝕄)) ⊢ reached ER (kcell ck) 0 := fun ck => bigSep_elim (Finset.mem_univ ck)
  have es : ∀ (b : Fin 2) (a : Dev nD), sendCell b a = kcell (a, ⟨1 + b.val, by omega⟩) := fun b a => congrArg (Prod.mk (a : Thread nD τ)) (csem_send b).symm
  have er : ∀ (r : Fin 3) (a : Dev nD), recvCell r a = kcell (a, ⟨3 + r.val, by omega⟩) := fun r a => congrArg (Prod.mk (a : Thread nD τ)) (csem_recv r).symm
  unfold known shared
  iintro ⟨⟨#HI, #HR⟩, #HL⟩
  isplitr; · iintro %a; iapply (hi (a, 0)); iexact HI
  isplitr; · iintro %b %a; rw [es]; iapply (hi _); iexact HI
  isplitr; · iintro %r %a; rw [er]; iapply (hi _); iexact HI
  isplitr; · iintro %a; iapply (hr (a, 0)); iexact HR
  isplitr; · iintro %b %a; rw [es]; iapply (hr _); iexact HR
  isplitr; · iintro %r %a; rw [er]; iapply (hr _); iexact HR
  iexact HL

/-- From the initial state: every cell's round state, position and tokens, by device. -/
theorem fund : BI.own (ER (initOf allCells allToks)) ⊢ (|==> bigSep Finset.univ (G fx fw) : sProp 𝕄) := by
  have hX (Φ : GSem nD τ sig → sProp 𝕄) : bigSep allCells Φ = bigSep Finset.univ fun c : Dev nD => bigSep Finset.univ fun k : Fin 6 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_nine]; rfl
  iintro HX
  imod (Rounds.fund ER (Rd fx fw) allCells allToks) $$ HX with ⟨Hst, Hr, Hat, Htok⟩
  imodintro
  ihave Hst' := (Entails.of_eq (hX fun g => roundState ER (Rd fx fw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero, written out. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (xSem 0)) 0 ∗ semVal ((c : Thread nD τ), .dma (xSem 1)) 0 ∗ semVal ((c : Thread nD τ), .dma (wSem 0)) 0
      ∗ semVal ((c : Thread nD τ), .dma (wSem 1)) 0 ∗ semVal (sendCell 0 c) 0 ∗ semVal (sendCell 1 c) 0
      ∗ semVal (recvCell 0 c) 0 ∗ semVal (recvCell 1 c) 0 ∗ semVal (recvCell 2 c) 0 ∗ semVal ((c : Thread nD τ), .dma lSem) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- They are those of the cells and those of the copies within the device. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 6 => semVal (kcell (c, k)) 0) ∗ ownZero c) : sProp 𝕄) := by
  rw [ownSems0_eq, unscopedSems0_eq, bigSep_six]
  unfold ownZero
  iintro ⟨⟨X0, X1, W0, W1, S0, S1, R0, R1, R2, Hl⟩, HB⟩
  isplitl [S0 S1 R0 R1 R2 HB]
  · isplitl [HB]; · iexact HB
    isplitl [S0]; · iexact S0
    isplitl [S1]; · iexact S1
    isplitl [R0]; · iexact R0
    isplitl [R1]; · iexact R1
    iexact R2
  isplitl [X0]; · iexact X0
  isplitl [X1]; · iexact X1
  isplitl [W0]; · iexact W0
  isplitl [W1]; · iexact W1
  iexact Hl

/-- One device's cells opened. -/
theorem core_alloc (c : Dev nD) :
    iprop(Pipeline.ownSems0 (Ix := Unit) (Name := ℕ) (U := UU) (Lvl := ℕ) (Val := Elt F) (τ := τ) osem c ∗ unscopedSems0 c ∗ G fx fw c)
      ⊢ |={Set.univ}=> iprop((bigSep Finset.univ fun k => cinv fx fw (kcell (c, k)))
          ∗ (bigSep Finset.univ fun k => iprop(atPos ER (kcell (c, k)) 0 ∅ 0 ∗ reached ER (kcell (c, k)) 0)) ∗ toks c ∗ ownZero c) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 6 => semVal (kcell (c, k)) 0) ∗ bigSep Finset.univ fun k : Fin 6 => roundState ER (Rd fx fw) (kcell (c, k)) 0)
      ⊢ (|={Set.univ}=> bigSep Finset.univ fun k => cinv fx fw (kcell (c, k)) : sProp 𝕄) from by
        rw [← bigSep_sep']
        unfold cinv
        exact (bigSep_mono fun k _ => (Rounds.body_intro ER (Rd fx fw) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt to the devices that pay the duties. -/
theorem toks_around : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok ER (barCell c) 0 0 : sProp 𝕄)),
    bigSep_univ_equiv (turn 1) (fun c : Dev nD => (dutyTok ER (barCell c) 0 1 : sProp 𝕄)),
    bigSep_univ_equiv (turn 2) (fun c : Dev nD => (dutyTok ER (barCell c) 0 2 : sProp 𝕄)),
    bigSep_univ_equiv (turn 0) (fun c : Dev nD => (dutyTok ER (recvCell 0 c) 0 0 : sProp 𝕄)),
    bigSep_univ_equiv (turn 1) (fun c : Dev nD => (dutyTok ER (recvCell 1 c) 0 0 : sProp 𝕄)),
    bigSep_univ_equiv (turn 2) (fun c : Dev nD => (dutyTok ER (recvCell 2 c) 0 0 : sProp 𝕄))]
  iintro ⟨B0, B1, B2, R0, R1, R2, S0, S1, S2⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0]; · iexact S0
  isplitl [S1] <;> iassumption

def mine (c : Dev nD) : sProp 𝕄 := iprop(known fx fw ∗ posns c ∗ payToks c ∗ ownZero c)

/-- A persistent fact may be used in every share. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants are shared among all devices, and the tokens go to the devices that pay them. -/
theorem regroup :
    (bigSep Finset.univ fun c : Dev nD => iprop((bigSep Finset.univ fun k => cinv fx fw (kcell (c, k)))
          ∗ (bigSep Finset.univ fun k => iprop(atPos ER (kcell (c, k)) 0 ∅ 0 ∗ reached ER (kcell (c, k)) 0)) ∗ toks c ∗ ownZero c) : sProp 𝕄)
      ⊢ bigSep Finset.univ (mine fx fw) := by
  rw [bigSep_sep', bigSep_sep', bigSep_sep', ← bigSep_univ_prod (fun ck : Dev nD × Fin 6 => cinv fx fw (kcell ck)),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  have hpos : (bigSep Finset.univ fun c : Dev nD => bigSep Finset.univ fun k : Fin 6 => (atPos ER (kcell (c, k)) 0 ∅ 0 : sProp 𝕄)) ⊢ bigSep Finset.univ fun c : Dev nD => (posns c : sProp 𝕄) :=
    bigSep_mono fun c _ => Entails.of_eq ((bigSep_six _).trans (by unfold posns; rfl))
  iintro ⟨#HI, ⟨Hat, #HR⟩, Htok, Hz⟩
  ihave Htk := (toks_around (F := F)) $$ Htok
  have hm : ∀ c ∈ (Finset.univ : Finset (Dev nD)), iprop(known fx fw ∗ (posns c ∗ payToks c ∗ ownZero c)) ⊢ mine fx fw c := fun c _ => by
    unfold mine; exact BI.Entails.refl _
  iapply (bigSep_with hm)
  isplitr
  · unfold known; isplitl; · iexact HI
    iexact HR
  · rw [bigSep_sep', bigSep_sep']
    isplitl [Hat]
    · iapply hpos
      iexact Hat
    isplitl [Htk] <;> iassumption

/-- All devices' semaphores and ghost state make what each device starts with. -/
theorem glob : (bigSep Finset.univ fun c => iprop(Pipeline.ownSems0 (Ix := Unit) (Name := ℕ) (U := UU) (Lvl := ℕ) (Val := Elt F) (τ := τ) osem c ∗ unscopedSems0 c ∗ G fx fw c) : sProp 𝕄)
    ⊢ |={Set.univ}=> bigSep Finset.univ (mine fx fw) :=
  ((bigSep_mono fun c _ => core_alloc fx fw c).trans (bigSep_fupd _ _)).trans (BI.fupd_mono (regroup fx fw))

end Ghost

/-! ## The launch credit -/

/-- What is owed to a barrier or receive cell, read at another: nothing, unless it is the same cell. -/
theorem bar_at (r : Fin 3) (d c : Dev nD) (n : ℕ) : (tallyAt (barCell (fwd r d)) () n : CellTallies nD τ sig Unit) (barCell c) () = if d = bwd r c then n else 0 := by
  rw [tallyAt_apply]
  by_cases h : d = bwd r c
  · subst h; rw [fwd_bwd, if_pos ⟨rfl, rfl⟩, if_pos rfl]
  · rw [if_neg h, if_neg]
    rintro ⟨h1, -⟩
    have h2 : c = fwd r d := congrArg (fun g : GSem nD τ sig => g.1.1) h1
    exact h (by rw [h2, bwd_fwd])
theorem recv_at (r : Fin 3) (d c : Dev nD) (n : ℕ) : (tallyAt (recvCell r (fwd r d)) () n : CellTallies nD τ sig Unit) (recvCell r c) () = if d = bwd r c then n else 0 := by
  rw [tallyAt_apply]
  by_cases h : d = bwd r c
  · subst h; rw [fwd_bwd, if_pos ⟨rfl, rfl⟩, if_pos rfl]
  · rw [if_neg h, if_neg]
    rintro ⟨h1, -⟩
    have h2 : c = fwd r d := congrArg (fun g : GSem nD τ sig => g.1.1) h1
    exact h (by rw [h2, bwd_fwd])
theorem bar_ne_recv (r : Fin 3) (a c : Dev nD) (n : ℕ) : (tallyAt (barCell a) () n : CellTallies nD τ sig Unit) (recvCell r c) () = 0 := by
  rw [tallyAt_apply, if_neg]
  rintro ⟨h1, -⟩
  exact absurd (congrArg Prod.snd h1) (fun h => by cases h)
theorem recv_ne_bar (r : Fin 3) (a c : Dev nD) (n : ℕ) : (tallyAt (recvCell r a) () n : CellTallies nD τ sig Unit) (barCell c) () = 0 := by
  rw [tallyAt_apply, if_neg]
  rintro ⟨h1, -⟩
  exact absurd (congrArg Prod.snd h1) (fun h => by cases h)
theorem rSem_inj {r r' : Fin 3} (h : (SemLoc.dma (rSem r) : SemLoc sig) = .dma (rSem r')) : r = r' := by revert r r'; decide
theorem recv_ne_recv (r r' : Fin 3) (hr : r ≠ r') (a c : Dev nD) (n : ℕ) : (tallyAt (recvCell r a) () n : CellTallies nD τ sig Unit) (recvCell r' c) () = 0 := by
  rw [tallyAt_apply, if_neg]
  rintro ⟨h1, -⟩
  exact hr (rSem_inj (congrArg Prod.snd h1)).symm

/-- Device `d` owes a unit to the barrier of each of its three peers. -/
theorem owed_bar (d c : Dev nD) : O₀ d (barCell c) () = (if d = bwd 2 c then 1 else 0) + (if d = bwd 1 c then 1 else 0) + (if d = bwd 0 c then 1 else 0) := by
  unfold O₀ B1 B2 R1 R2 R3
  simp only [Pi.add_apply, Finsupp.add_apply]
  rw [recv_ne_bar, recv_ne_bar, recv_ne_bar, bar_at, bar_at, bar_at]
  simp only [Pi.zero_apply, Finsupp.zero_apply, Nat.zero_add, Nat.add_zero]
/-- Device `d` owes one copy to the cell of each peer that receives its column. -/
theorem owed_recv (r : Fin 3) (d c : Dev nD) : O₀ d (recvCell r c) () = if d = bwd r c then N else 0 := by
  unfold O₀ B1 B2 R1 R2 R3
  simp only [Pi.add_apply, Finsupp.add_apply, bar_ne_recv]
  fin_cases r
  · show (0 : CellTallies nD τ sig Unit) (recvCell 0 c) () + tallyAt (recvCell 2 (fwd 2 d)) () N (recvCell 0 c) () + tallyAt (recvCell 1 (fwd 1 d)) () N (recvCell 0 c) ()
      + tallyAt (recvCell 0 (fwd 0 d)) () N (recvCell 0 c) () + 0 + 0 + 0 = if d = bwd 0 c then N else 0
    rw [recv_at, recv_ne_recv 2 0 (by decide), recv_ne_recv 1 0 (by decide)]
    simp only [Pi.zero_apply, Finsupp.zero_apply, Nat.zero_add, Nat.add_zero]
  · show (0 : CellTallies nD τ sig Unit) (recvCell 1 c) () + tallyAt (recvCell 2 (fwd 2 d)) () N (recvCell 1 c) () + tallyAt (recvCell 1 (fwd 1 d)) () N (recvCell 1 c) ()
      + tallyAt (recvCell 0 (fwd 0 d)) () N (recvCell 1 c) () + 0 + 0 + 0 = if d = bwd 1 c then N else 0
    rw [recv_at, recv_ne_recv 2 1 (by decide), recv_ne_recv 0 1 (by decide)]
    simp only [Pi.zero_apply, Finsupp.zero_apply, Nat.zero_add, Nat.add_zero]
  · show (0 : CellTallies nD τ sig Unit) (recvCell 2 c) () + tallyAt (recvCell 2 (fwd 2 d)) () N (recvCell 2 c) () + tallyAt (recvCell 1 (fwd 1 d)) () N (recvCell 2 c) ()
      + tallyAt (recvCell 0 (fwd 0 d)) () N (recvCell 2 c) () + 0 + 0 + 0 = if d = bwd 2 c then N else 0
    rw [recv_at, recv_ne_recv 1 2 (by decide), recv_ne_recv 0 2 (by decide)]
    simp only [Pi.zero_apply, Finsupp.zero_apply, Nat.zero_add, Nat.add_zero]

/-- The credit of a barrier cell at launch is three units. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (bwd 2 c) fun _ => 1, Finset.sum_ite_eq' Finset.univ (bwd 1 c) fun _ => 1, Finset.sum_ite_eq' Finset.univ (bwd 0 c) fun _ => 1,
    if_pos (Finset.mem_univ _), if_pos (Finset.mem_univ _), if_pos (Finset.mem_univ _)]
/-- That of a receive cell is one copy. -/
theorem launch_recv (r : Fin 3) (c : Dev nD) :
    tallyOn (recvCell r c) (launchCredit (Pipeline.owing O₀) 0 (recvCell r c)) = (tallyAt (recvCell r c) () N : CellTallies nD τ sig Unit) := by
  unfold tallyAt; refine congrArg _ (Finsupp.ext fun u => ?_); cases u
  rw [Pipeline.launchCredit_owing, Finsupp.single_eq_same, Finset.sum_congr rfl fun d _ => owed_recv r d c, Finset.sum_ite_eq' Finset.univ (bwd r c) fun _ => N,
    if_pos (Finset.mem_univ _)]

/-- The credit that a device's waits spend. -/
theorem creds (c : Dev nD) : (Pipeline.launchCred O₀ c : sProp 𝕄) ⊢ credits c := by
  unfold Pipeline.launchCred credits
  refine (bigSep_subset (Finset.subset_univ (({SemLoc.reg barS, .dma (rSem 0), .dma (rSem 1), .dma (rSem 2)}) : Finset (SemLoc sig)))).trans ?_
  rw [bigSep_eq_bigSepL_of_eq [SemLoc.reg barS, .dma (rSem 0), .dma (rSem 1), .dma (rSem 2)] (by decide) (by decide)]
  simp only [bigSepL_cons_cons, bigSepL_singleton]
  rw [launch_bar, launch_recv, launch_recv, launch_recv]
  exact BI.Entails.refl _

end Cert.KernelProof

end
-- ==== Proof.Launch.lean ====
/- The launch: every device's body, and what every final state holds. -/
module

public import proofs.«01_k».proof.Proof.Ghost
public import Idealize.ShloMosaic.Lib.Pipeline.CollectiveSegs
public import Idealize.ShloMosaic.Lib.Quiescent

@[expose] public section

noncomputable section

namespace Cert.KernelProof

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Launch
variable (m : (ℓ : Loc nD τ sig) → Buf (Elt F) ℓ) (ρ : Dev nD → PrngReg)

abbrev s₀ : MemSt nD τ sig (Elt F) := ⟨m, fun _ => 0, ρ⟩
/-- The devices' blocks of `x` and copies of the weights. -/
abbrev xs : Dev nD → XC F := fun c => m ((c : Thread nD τ).loc main_arg0)
abbrev ws : Dev nD → WC F := fun c => m ((c : Thread nD τ).loc main_arg1)

/-- What device `c` brings to the kernel. -/
def start (c : Dev nD) : sProp 𝕄 :=
  iprop(mine (xs m) (ws m) c ∗ levAts L lv ∗ credits c ∗ arrs (xs m) (ws m) c)
def Φ₀ (c : Dev nD) : sProp 𝕄 := iprop(start m c ∗ scratch c)
def Φ₁ (c : Dev nD) : sProp 𝕄 := iprop(crossZero c ∗ ownZero c ∗ arrsDone (xs m) (ws m) c ∗ scratch c)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

/-- No window is pipelined. -/
theorem bigSep_W (Φ : Fin cfg0.W → sProp 𝕄) : bigSep Finset.univ Φ = iprop(emp) :=
  (congrArg (fun s => bigSep s Φ) (show (Finset.univ : Finset (Fin 0)) = ∅ by decide)).trans bigSep_empty

/-- The body in the launch's terms: from what a device brings to what it leaves, owing nothing. -/
theorem flow_run (c : Dev nD) :
    iprop(Φ₀ m c ∗ (dats m 0 c).owesAt () t0_0.castSucc ∗ emp)
      ⊢ WP c (flow c) fun _ => iprop(Φ₁ m c ∗ (dats m 0 c).owesAt () t0_0.succ ∗ emp) := by
  have key := flow_wp (xs m) (ws m) c (kk := fun _ => (.ret ⟨⟩ : KProg F PUnit)) (Q := fun _ => iprop(Φ₁ m c ∗ (dats m 0 c).owesAt () t0_0.succ ∗ emp))
  rw [show (flow c >>= fun _ => (.ret ⟨⟩ : KProg F PUnit)) = flow c from bind_pure (flow c)] at key
  unfold Dat.owesAt Pipeline.owesWithin at key ⊢
  rw [show (dats m 0 c).owed t0_0.castSucc = O₀ c from rfl]
  rw [show (dats m 0 c).owed t0_0.succ = 0 from rfl] at key ⊢
  unfold Φ₀ start mine
  iintro ⟨⟨⟨⟨HK, Hp, Ht, Hz⟩, HL, Hc, Ha⟩, Hsc⟩, ⟨%W, %hW, HO⟩, -⟩
  ihave HS := (known_shared (xs m) (ws m)) $$ [HK HL]
  · isplitl [HK] <;> iassumption
  iapply key $$ [HS Hp Ht Hz Hc Ha Hsc HO]
  · unfold bodyPre
    isplitl [HS]; · iexact HS
    isplitl [Hp]; · iexact Hp
    isplitl [Ht]; · iexact Ht
    isplitl [Hc]; · iexact Hc
    isplitl [Hz]; · iexact Hz
    isplitl [Ha]; · iexact Ha
    isplitl [Hsc]; · iexact Hsc
    unfold owesSome
    iexists W; iexact HO
  · unfold bodyPost owesSome
    iintro ⟨Hx, Hz, Ha, Hsc, ⟨%W', HO⟩⟩
    unfold WP
    rw [wp_ret]
    imodintro
    isplitl [Hx Hz Ha Hsc]
    · unfold Φ₁
      isplitl [Hx]; · iexact Hx
      isplitl [Hz]; · iexact Hz
      isplitl [Ha] <;> iassumption
    isplitl [HO]
    · iexists W'
      isplitr; · ipureintro; exact fun _ _ => Or.inl trivial
      iexact HO
    · iempintro

/-- The same of the printed body. -/
theorem body_obligation (c : Dev nD) : BodyObligation (dats (F := F) m 0 c) (defs₀ (F := F)) 𝒱₀ () Set.univ := fun t => by
  rw [show t = t0_0 from fin_N0 t, bigSep_W, bigSep_W]
  show iprop(Φ₀ m c ∗ (dats m 0 c).owesAt () t0_0.castSucc ∗ emp)
    ⊢ WP c (cc0_body (F := F) xH (Memref.isWhole_whole _) wH (Memref.isWhole_whole _) oH (Memref.isWhole_whole _) xV (Memref.isWhole_whole _) xB (Memref.isWhole_whole _)
      wB (Memref.isWhole_whole _) aV (Memref.isWhole_whole _) sB (Memref.isWhole_whole _) cc0_scratch5 cc0_scratch6 cc0_scratch7 cc0_scratch8 cc0_scratch9)
      fun _ => iprop(Φ₁ m c ∗ (dats m 0 c).owesAt () t0_0.succ ∗ emp)
  rw [body_eq]
  unfold WP
  simp only [Prog.lift, Prog.bind_op, Prog.bind_ret, wp_deviceId]
  exact flow_run m c

/-- What the launch hands a device is what it brings to the kernel. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ mine (xs m) (ws m) c)
      ⊢ (|={Set.univ}=> iprop(start m c ∗ emp) : sProp 𝕄) := by
  rw [show (Pipeline.unscopedRestP Pipeline.Prefetch.none cfg0.spec c (fun b => m ((c : Thread nD τ).loc b)) : sProp 𝕄) = _ from unscopedRest0_eq c _]
  iintro ⟨⟨H0, H1, H2⟩, Hlev, Hcr, -, HG⟩
  ihave Hc := (creds (F := F) c) $$ Hcr
  imodintro
  isplitl
  · unfold start arrs
    isplitl [HG]; · iexact HG
    isplitl [Hlev]; · iexact Hlev
    isplitl [Hc]; · iexact Hc
    isplitl [H0]; · iexact H0
    isplitl [H1]; · iexact H1
    iexists _; iexact H2
  · iempintro

/-- With the scratch buffers, it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device keeps beyond the kernel. -/
def kept (c : Dev nD) : sProp 𝕄 := iprop(unscopedSems0 c ∗ arrsDone (xs m) (ws m) c)

/-- What the body leaves gives back the buffers and the semaphores at zero, and keeps the arrays. -/
theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold kept Φ₁ crossZero ownZero scratch
  rw [unscopedSems0_eq]
  iintro ⟨⟨HB, S0, S1, R0, R1, R2⟩, ⟨X0, X1, W0, W1, Hl⟩, Ha, Hr⟩
  isplitl [HB Ha]
  · isplitl [HB] <;> iassumption
  isplitr [Hr]
  · isplitl [X0]; · iexact X0
    isplitl [X1]; · iexact X1
    isplitl [W0]; · iexact W0
    isplitl [W1]; · iexact W1
    isplitl [S0]; · iexact S0
    isplitl [S1]; · iexact S1
    isplitl [R0]; · iexact R0
    isplitl [R1]; · iexact R1
    isplitl [R2]; · iexact R2
    iexact Hl
  · iexact Hr

/-- The launch has no waits of its own. -/
theorem waits (c : Dev nD) : (levAts L lv : sProp 𝕄) ⊢ Pipeline.cellsWaits cfgs (dats m) () 0 c :=
  Pipeline.cellsWaits_intro cfgs (dats m) () 0 c fun w s t => w.elim0

/-- What a final state holds on device `c`: the arguments unchanged, and in the rows of each device of its result
    what that device computes for `c`. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ e : Dev nD, (oRow e).view.read (Elt F) (s.mem (oH.view.loc (c : Thread nD τ))) = outV (xs m e) (ws m e) c.val

/-- A device is this one or one of the three it hears from. -/
theorem device_cases (c e : Dev nD) : e = c ∨ ∃ r, e = bwd r c := by
  revert c e; decide

/-- The rows that device `e` filled, read in the final memory. -/
theorem read_row (c e : Dev nD) (s' : Phys nD τ sig (Elt F)) :
    iprop(oDone (xs m) (ws m) c e ∗ SI s')
      ⊢ (iprop(⌜(oRow e).view.read (Elt F) (s'.mem.mem (oH.view.loc (c : Thread nD τ))) = outV (xs m e) (ws m e) c.val⌝ ∗ SI s') : sProp 𝕄) := by
  unfold oDone
  iintro ⟨⟨%f, %hf, Ho⟩, HSI⟩
  icombine HSI Ho gives %h
  isplitr
  · ipureintro; exact (View.read_congr h).trans hf
  · iexact HSI

/-- What a device keeps, read in the final memory. -/
theorem done_read (c : Dev nD) (s' : Phys nD τ sig (Elt F)) :
    iprop(kept m c ∗ emp ∗ SI s')
      ⊢ (|={Set.univ}=> iprop(⌜(∀ sm : SemLoc sig, sm.isScoped .tc = false → s'.mem.sem ((c.tc : Thread nD τ), sm) = 0) ∧ Done m c s'.mem⌝ ∗ SI s') : sProp 𝕄) := by
  unfold kept arrsDone
  iintro ⟨⟨Hu, Hx, Hw, Oc, O0, O1, O2⟩, -, HSI⟩
  icombine HSI Hx gives %hx
  icombine HSI Hw gives %hw
  ihave H := (read_row m c c s') $$ [Oc HSI]
  · isplitl [Oc] <;> iassumption
  icases H with ⟨%hc, HSI⟩
  ihave H := (read_row m c (bwd 0 c) s') $$ [O0 HSI]
  · isplitl [O0] <;> iassumption
  icases H with ⟨%h0, HSI⟩
  ihave H := (read_row m c (bwd 1 c) s') $$ [O1 HSI]
  · isplitl [O1] <;> iassumption
  icases H with ⟨%h1, HSI⟩
  ihave H := (read_row m c (bwd 2 c) s') $$ [O2 HSI]
  · isplitl [O2] <;> iassumption
  icases H with ⟨%h2, HSI⟩
  have hd : Done m c s'.mem := by
    refine ⟨Buf.eq_of_forall_mem_univ hx, Buf.eq_of_forall_mem_univ hw, fun e => ?_⟩
    rcases device_cases c e with rfl | ⟨r, rfl⟩
    · exact hc
    · fin_cases r
      · exact h0
      · exact h1
      · exact h2
  imod (Pipeline.unscopedSems0_read (X := unscopedSems0 c) (c := c) fupd_intro s') $$ [Hu HSI] with ⟨%hs, HSI⟩
  · isplitl [Hu] <;> iassumption
  imodintro
  isplitr
  · ipureintro; exact ⟨hs, hd⟩
  · iexact HSI

/-- On four devices, for any float values and any memory with zero counters, every weakly fair execution ends, with the
    arguments unchanged, the results as `Done` says and every counter at zero. -/
theorem run_main : θ_run defs (onTc (τ := τ) (main (F := F))) (s₀ m ρ) (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (xs m) (ws m)) (G' := mine (xs m) (ws m)) (u₀ := u₀)
    (hu₀ := by
      unfold u₀
      iintro Hu
      ihave H := (ownU_split _ _) $$ Hu
      icases H with ⟨HP, HX⟩
      imod (fund (xs m) (ws m)) $$ HX with HG
      imodintro
      isplitl [HP] <;> iassumption)
    (hglob := glob (xs m) (ws m))
    (hA := fun _ w => w.elim0) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ Done m c s)
    (hY := done_read m)
    (hQ := fun _ h hs => ⟨fun c => (h c).2.2.2, sem_eq_zero hs fun c => (h c).2.2.1⟩)

end Launch

end Cert.KernelProof

end
-- ==== Proof.Value.lean ====
/- The kernel's result at the ideal values: the accumulated blocks are the whole product, and each of its entries
   is `a / (1 + exp (-a))` of the product's. -/
module

public import proofs.«01_k».proof.Proof.Spec
public import Idealize.ShloMosaic.Lib.Pointwise
public import Idealize.ShloMosaic.Lib.ValueIdx
public import Idealize.ShloMosaic.Lib.IdealHost

@[expose] public section

noncomputable section

namespace Cert.KernelProof

open Cert.KernelIdeal Cert.KernelIdeal.Gen
open Idealize.ShloMosaic
open Idealize.ShloMosaic.TcCoe

/-- `1 + exp (-a)` is positive. -/
theorem one_add_exp_ne (a : EReal) : (1 : EReal) + Ideal.exp a ≠ 0 := by
  have h : (0 : EReal) ≤ Ideal.exp a := by
    induction a with
    | bot => exact le_refl _
    | top => exact le_top
    | coe r => exact EReal.coe_nonneg.mpr (Real.exp_pos r).le
  exact (lt_of_lt_of_le zero_lt_one (le_add_of_nonneg_right h)).ne'

/-- The kernel's activation of a value, and the quotient it is. -/
def siluI (a : EReal) : EReal := a * Ideal.div 1 (1 + Ideal.exp (0 - a))
/-- It is the quotient, since the divisor is not zero. -/
theorem siluI_eq (a : EReal) : siluI a = Ideal.div a (1 + Ideal.exp (-a)) := by
  unfold siluI Ideal.div
  rw [sub_eq_add_neg, zero_add, if_neg (one_add_exp_ne _), if_neg (one_add_exp_ne _), one_mul]

section
variable (fx : XC Ideal) (fw : WC Ideal)

/-- An entry of a block of `w`. -/
theorem wK_apply (k j : ℕ) (r : Fin 512) (q : Fin 1024) :
    wK fw k j (ix2 r q) = (fw : Vec Ideal S8192x4096 .f32) (ix2 ⟨512 * (k % 16) + r.val, by omega⟩ ⟨1024 * (j % 4) + q.val, by omega⟩) := by
  refine congrArg (fw : Vec Ideal S8192x4096 .f32) (funext fun a => Fin.ext ?_)
  fin_cases a
  · show 512 * (k % 16) + 1 * r.val = _; rw [Nat.one_mul]; rfl
  · show 1024 * (j % 4) + 1 * q.val = _; rw [Nat.one_mul]; rfl
/-- An entry of half a block of the converted `x`. -/
theorem xhK_apply (h : Fin 2) (k : ℕ) (r : Fin 1024) (q : Fin 512) :
    xhK fx h k (ix2 r q) = (fx : Vec Ideal S2048x8192 .f32) (ix2 ⟨1024 * h.val + r.val, by omega⟩ ⟨512 * (k % 16) + q.val, by omega⟩) := by
  refine congrArg (fx : Vec Ideal S2048x8192 .f32) (funext fun a => Fin.ext ?_)
  fin_cases a
  · show 1024 * h.val + 1 * r.val = _; rw [Nat.one_mul]; rfl
  · show 512 * (k % 16) + 1 * q.val = _; rw [Nat.one_mul]; rfl

/-- One term of the product of row `r` and column `q`. -/
def term (X : S2048x8192.Idx → EReal) (W : S8192x4096.Idx → EReal) (r : Fin 2048) (q : Fin 4096) (k : Fin 8192) : EReal := X (ix2 r k) * W (ix2 k q)

/-- An entry of a block's product is a sum of 512 terms. -/
theorem prodQ_apply (j k : ℕ) (h : Fin 2) (r q : Fin 1024) :
    prodQ (wK fw k j) (xhK fx h k) (ix2 r q)
      = ∑ s : Fin 512, term fx fw ⟨1024 * h.val + r.val, by omega⟩ ⟨1024 * (j % 4) + q.val, by omega⟩ ⟨512 * (k % 16) + s.val, by omega⟩ := by
  unfold prodQ
  simp only [pointwise]
  rw [zero_add]
  exact Finset.sum_congr rfl fun s _ => congrArg₂ (· * ·) (xhK_apply fx h k r s) (wK_apply fw k j s q)

/-- An entry of the accumulator is the sum over the blocks so far. -/
theorem accQ_apply (j : ℕ) (h : Fin 2) (r q : Fin 1024) (n : ℕ) :
    accQ fx fw j n h (ix2 r q)
      = ∑ b ∈ Finset.range (n + 1), ∑ s : Fin 512,
          term fx fw ⟨1024 * h.val + r.val, by omega⟩ ⟨1024 * (j % 4) + q.val, by omega⟩ ⟨512 * (b % 16) + s.val, by omega⟩ := by
  induction n with
  | zero => rw [Finset.sum_range_one]; exact prodQ_apply fx fw j 0 h r q
  | succ n ih => rw [Finset.sum_range_succ, ← ih]; exact congrArg _ (prodQ_apply fx fw j (n + 1) h r q)

/-- A sum taken by blocks is the sum. -/
theorem sum_range_blocks (g : ℕ → EReal) (m : ℕ) : ∀ n : ℕ, (∑ b ∈ Finset.range n, ∑ s ∈ Finset.range m, g (m * b + s)) = ∑ k ∈ Finset.range (m * n), g k
  | 0 => rfl
  | n + 1 => by rw [Finset.sum_range_succ, sum_range_blocks g m n, Nat.mul_succ, Finset.sum_range_add]
/-- Sixteen blocks of 512 terms are all 8192. -/
theorem sum_blocks (f : Fin 8192 → EReal) :
    (∑ b ∈ Finset.range 16, ∑ s : Fin 512, f ⟨512 * (b % 16) + s.val, by omega⟩) = ∑ k, f k := by
  have key := sum_range_blocks (fun k => f ⟨k % 8192, Nat.mod_lt _ (by decide)⟩) 512 16
  have e1 : (∑ k ∈ Finset.range (512 * 16), f ⟨k % 8192, Nat.mod_lt _ (by decide)⟩) = ∑ k : Fin 8192, f k :=
    (Finset.sum_range (n := 8192) fun k => f ⟨k % 8192, Nat.mod_lt _ (by decide)⟩).trans
      (Finset.sum_congr rfl fun k _ => congrArg f (Fin.ext (Nat.mod_eq_of_lt k.isLt)))
  refine Eq.trans (Finset.sum_congr rfl fun b hb => ?_) (key.trans e1)
  rw [Finset.sum_range]
  have hb' := Finset.mem_range.mp hb
  refine Finset.sum_congr rfl fun s _ => congrArg f (Fin.ext ?_)
  have hs := s.isLt
  show 512 * (b % 16) + s.val = (512 * b + s.val) % 8192
  omega

/-- Entry (`r`, `q`) of the product. -/
def dotI (X : S2048x8192.Idx → EReal) (W : S8192x4096.Idx → EReal) (r : Fin 2048) (q : Fin 4096) : EReal := ∑ k : Fin 8192, term X W r q k

/-- After the last block the accumulator holds the product. -/
theorem acc_dot (j : ℕ) (h : Fin 2) (r q : Fin 1024) :
    accQ fx fw j 15 h (ix2 r q) = dotI fx fw ⟨1024 * h.val + r.val, by omega⟩ ⟨1024 * (j % 4) + q.val, by omega⟩ :=
  (accQ_apply fx fw j h r q 15).trans (sum_blocks fun k => term fx fw ⟨1024 * h.val + r.val, by omega⟩ ⟨1024 * (j % 4) + q.val, by omega⟩ k)

/-- An entry of the activation. -/
theorem siluP_apply (a : Vec Ideal S1024x1024 .f32) (u : Fin 1) (r q : Fin 1024) : siluP a (ix3 u r q) = siluI (a (ix2 r q)) := by
  unfold siluP k0_pay38
  simp only [pointwise]
  rfl

/-- An entry of the column that a device computes. -/
theorem outV_apply (j : ℕ) (r : Fin 2048) (q : Fin 1024) :
    outV fx fw j (ix2 r q) = siluI (dotI fx fw r ⟨1024 * (j % 4) + q.val, by omega⟩) := by
  have hr : 1024 * (r.val / 1024) + r.val % 1024 = r.val := Nat.div_add_mod _ _
  refine (siluP_apply _ ⟨0, by decide⟩ ⟨r.val % 1024, by omega⟩ q).trans (congrArg siluI ?_)
  refine (acc_dot fx fw j ⟨r.val / 1024, by omega⟩ ⟨r.val % 1024, by omega⟩ q).trans ?_
  exact congrArg (fun r => dotI fx fw r _) (Fin.ext hr)

end

end Cert.KernelProof

end
-- ==== Proof.Whole.lean ====
/- The whole arrays: the kernel's results are the blocks of `silu (x w)`, and so are the references'. -/
module

public import proofs.«01_k».proof.Proof.Launch
public import proofs.«01_k».proof.Proof.Value
public import proofs.«01_k».proof.Proof.Gen.ReferenceIdeal.Run
public import proofs.«01_k».proof.Proof.Gen.SiluIdeal.Run
public import proofs.«01_k».proof.Proof.Gen.Pre_small_KernelIdeal
public import Idealize.ShloMosaic.Lib.Layout

@[expose] public section

noncomputable section

namespace Cert.KernelProof

open Cert.KernelIdeal Cert.KernelIdeal.Gen
open Idealize.ShloMosaic
open Idealize.ShloMosaic.TcCoe

abbrev SX : Shape := ⟨2, ![8192, 8192]⟩
abbrev SW : Shape := ⟨2, ![8192, 4096]⟩

/-- An entry of the whole product, and of the whole result. -/
def dotW (X : SX.Idx → EReal) (W : SW.Idx → EReal) (j : SW.Idx) : EReal := ∑ k : Fin 8192, X (ix2 (j 0) k) * W (ix2 k (j 1))
def whole (X : SX.Idx → EReal) (W : SW.Idx → EReal) : SW.Idx → EReal := fun j => siluI (dotW X W j)

/-- A device's rows of the product. -/
theorem dot_block (X : SX.Idx → EReal) (W : SW.Idx → EReal) (e : Fin 4) (r : Fin 2048) (q : Fin 4096) :
    dotI (Layout.block ⟨2, ![2048, 8192]⟩ SX 0 4 e X) W r q = dotW X W (ix2 ⟨e.val * 2048 + r.val, by omega⟩ q) := by
  unfold dotI dotW term
  refine Finset.sum_congr rfl fun k _ => congrArg₂ (· * ·) (congrArg X (funext fun a => Fin.ext ?_)) rfl
  fin_cases a <;> rfl

section Kernel
variable (m : (ℓ : Loc nD τ sig) → Buf (Elt Ideal) ℓ)

/-- A device's result, entry by entry. -/
theorem entry_of_done (c : Dev nD) (s : MemSt nD τ sig (Elt Ideal)) (h : Done m c s) (e : Dev nD) (r : Fin 2048) (q : Fin 1024) :
    (s.mem ((c : Thread nD τ).loc main_v1) : S8192x1024.Idx → EReal) (ix2 ⟨e.val * 2048 + r.val, by have : e.val < 4 := e.isLt; omega⟩ q)
      = siluI (dotI (xs m e) (ws m e) r ⟨1024 * (c.val % 4) + q.val, by omega⟩) := by
  have hr := congrFun (h.2.2 e) (ix2 r q)
  rw [outV_apply] at hr
  refine Eq.trans (congrArg (s.mem ((c : Thread nD τ).loc main_v1) : S8192x1024.Idx → EReal) (funext fun a => Fin.ext ?_)) hr
  fin_cases a
  · show e.val * 2048 + r.val = k0_off14 e 0 + 1 * r.val
    rw [show k0_off14 e 0 = 2048 * e.val by rw [k0_off14_eq]; rfl]; omega
  · show q.val = k0_off14 e 1 + 1 * q.val
    rw [show k0_off14 e 1 = 0 by rw [k0_off14_eq]; rfl]; omega

/-- A device's result is its block of columns of the whole result. -/
theorem result_block (X : SX.Idx → EReal) (W : SW.Idx → EReal)
    (hx : ∀ e : Dev nD, (xs m e : S2048x8192.Idx → EReal) = Layout.block ⟨2, ![2048, 8192]⟩ SX 0 4 e X) (hw : ∀ e : Dev nD, (ws m e : SW.Idx → EReal) = W)
    (c : Dev nD) (s : MemSt nD τ sig (Elt Ideal)) (h : Done m c s) :
    (s.mem ((c : Thread nD τ).loc main_v1) : S8192x1024.Idx → EReal) = Layout.block ⟨2, ![8192, 1024]⟩ SW 1 4 c (whole X W) := by
  funext i
  have hi0 : (i 0).val < 8192 := (i 0).isLt
  have hc : c.val < 4 := c.isLt
  have key := entry_of_done m c s h ⟨(i 0).val / 2048, by show (i 0).val / 2048 < 4; omega⟩ ⟨(i 0).val % 2048, by omega⟩ ⟨(i 1).val, (i 1).isLt⟩
  have e1 : i = ix2 ⟨(i 0).val / 2048 * 2048 + (i 0).val % 2048, by omega⟩ ⟨(i 1).val, (i 1).isLt⟩ := funext fun a => Fin.ext (by
    fin_cases a
    · exact (Nat.div_add_mod' _ _).symm
    · rfl)
  rw [e1]
  refine key.trans ?_
  rw [show dotI (xs m ⟨(i 0).val / 2048, _⟩) (ws m ⟨(i 0).val / 2048, _⟩) = _ from congrArg₂ dotI (hx _) (hw _), dot_block]
  refine congrArg (fun j => siluI (dotW X W j)) (funext fun a => Fin.ext ?_)
  fin_cases a
  · rfl
  · show 1024 * (c.val % 4) + (i 1).val = c.val * 1024 + (i 1).val
    omega

end Kernel

/-- The clip-free reference's result. -/
theorem silu_term (X : FVec Ideal SX .f32) (W : FVec Ideal SW .f32) :
    (truncf .bf16 (Host.divf (Host.dotGeneral SiluIdeal.dot_S8192x8192_S8192x4096_S8192x4096_1_0_0_1_n_n none X W)
      (addf (broadcastInDim SW ![] SiluIdeal.Facts₀.bcast_S_S8192x4096 (constant ⟨0, ![]⟩ .f32 0x3F800000#32))
        (Host.exp (Host.negf (Host.dotGeneral SiluIdeal.dot_S8192x8192_S8192x4096_S8192x4096_1_0_0_1_n_n none X W)))))
      SiluIdeal.Facts₀.bitsLt_bf16_f32 : FVec Ideal SW .bf16) = whole X W := by
  funext j
  simp only [pointwise]
  rw [zero_add]
  exact (siluI_eq (dotW X W j)).symm

/-- The clip's two bounds. -/
abbrev lo : EReal := Ideal.ofBits .f32 0xC2700000#32
abbrev hi : EReal := Ideal.ofBits .f32 0x42700000#32

/-- Two comparisons that both hold. -/
theorem both_of_andi {p q : Prop} [Decidable p] [Decidable q] (h : IntOp.andi (BitVec.ofBool (decide p)) (BitVec.ofBool (decide q)) = 1#1) : p ∧ q := by
  by_cases hp : p <;> by_cases hq : q <;> simp only [hp, hq, decide_true, decide_false] at h ⊢ <;> revert h <;> decide

/-- What `small` says of a device's rows of the product. -/
theorem small_bounds (X : FVec Ideal ⟨2, ![2048, 8192]⟩ .f32) (W : FVec Ideal SW .f32) (h : Pre_small_KernelIdeal.fn (F := Ideal) X W = fun _ => 1#1)
    (r : Fin 2048) (q : Fin 4096) : lo ≤ dotI X W r q ∧ dotI X W r q ≤ hi := by
  have h1 := congrFun h (ix2 r q)
  simp only [Pre_small_KernelIdeal.fn, pointwise] at h1
  rw [zero_add] at h1
  exact both_of_andi h1

/-- `small` on every device's rows bounds the whole product. -/
theorem whole_bounds (X : FVec Ideal SX .f32) (W : FVec Ideal SW .f32)
    (h : ∀ e : Fin 4, Pre_small_KernelIdeal.fn (F := Ideal) (Layout.block ⟨2, ![2048, 8192]⟩ SX 0 4 e X) W = fun _ => 1#1) (j : SW.Idx) :
    lo ≤ dotW X W j ∧ dotW X W j ≤ hi := by
  have hj : (j 0).val < 8192 := (j 0).isLt
  have hb := small_bounds _ W (h ⟨(j 0).val / 2048, by omega⟩) ⟨(j 0).val % 2048, by omega⟩ ⟨(j 1).val, (j 1).isLt⟩
  rw [dot_block] at hb
  have e1 : j = ix2 ⟨(j 0).val / 2048 * 2048 + (j 0).val % 2048, by omega⟩ ⟨(j 1).val, (j 1).isLt⟩ := funext fun a => Fin.ext (by
    fin_cases a
    · exact (Nat.div_add_mod' _ _).symm
    · rfl)
  rw [e1]
  exact hb

/-- The clipping reference's result, where the clip changes nothing. -/
theorem reference_term (X : FVec Ideal SX .f32) (W : FVec Ideal SW .f32) (hb : ∀ j, lo ≤ dotW X W j ∧ dotW X W j ≤ hi) :
    (truncf .bf16 (Host.divf (Host.dotGeneral ReferenceIdeal.dot_S8192x8192_S8192x4096_S8192x4096_1_0_0_1_n_n none X W)
      (addf (broadcastInDim SW ![] ReferenceIdeal.Facts₀.bcast_S_S8192x4096 (constant ⟨0, ![]⟩ .f32 0x3F800000#32))
        (Host.exp (Host.negf (minimumf (broadcastInDim SW ![] ReferenceIdeal.Facts₀.bcast_S_S8192x4096 (id (constant ⟨0, ![]⟩ .f32 0x42700000#32)))
          (maximumf (broadcastInDim SW ![] ReferenceIdeal.Facts₀.bcast_S_S8192x4096 (id (constant ⟨0, ![]⟩ .f32 0xC2700000#32)))
            (Host.dotGeneral ReferenceIdeal.dot_S8192x8192_S8192x4096_S8192x4096_1_0_0_1_n_n none X W)))))))
      ReferenceIdeal.Facts₀.bitsLt_bf16_f32 : FVec Ideal SW .bf16) = whole X W := by
  funext j
  simp only [pointwise, id]
  rw [zero_add]
  have hc : min hi (max lo (dotW X W j)) = dotW X W j := by rw [max_eq_right (hb j).1, min_eq_right (hb j).2]
  refine Eq.trans ?_ (siluI_eq (dotW X W j)).symm
  exact congrArg (fun t => Ideal.div (dotW X W j) (1 + Ideal.exp (-t))) hc

end Cert.KernelProof

end
-- ==== Proof.lean ====
/- The proof of the claims: the kernel's and the references' frames, and the kernel's result against each reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_small_KernelIdeal
public import proofs.«01_k».proof.Proof.Gen.Pre_small_ReferenceIdeal
public import proofs.«01_k».proof.Proof.Launch
public import proofs.«01_k».proof.Proof.Whole

@[expose] public section

noncomputable section

namespace Cert.Proof

open Idealize.ShloMosaic Idealize.SL.Sem Idealize.ShloMosaic.TcCoe
open Cert.KernelProof (whole result_block whole_bounds reference_term silu_term SX SW)

/-! ## The frames -/

/-- The kernel ends without fault, with its arguments unchanged and every semaphore at zero. -/
theorem frame_p : Cert.quiescent_Kernel := fun m ρ _ =>
  (θ_run Cert.KernelIdeal.defs _ _).mono (fun _ h => ⟨fun c => ⟨(h.1 c).1, (h.1 c).2.1⟩, h.2⟩) (KernelProof.run_main (F := Bits) m ρ)

/-- The same over the extended reals. -/
theorem frame_pi : Cert.quiescent_KernelIdeal := fun m ρ _ =>
  (θ_run Cert.KernelIdeal.defs _ _).mono (fun _ h => ⟨fun c => ⟨(h.1 c).1, (h.1 c).2.1⟩, h.2⟩) (KernelProof.run_main (F := Ideal) m ρ)

/-- The same under the precondition. -/
theorem frame_pi_small : Cert.quiescent_KernelIdeal_pre_small_KernelIdeal := fun m ρ _ => frame_pi m ρ trivial

/-- The reference ends likewise; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same under the precondition. -/
theorem frame_ri_small : Cert.quiescent_ReferenceIdeal_pre_small_ReferenceIdeal := fun m ρ _ => frame_ri m ρ trivial

/-- The reference without the clip ends likewise. -/
theorem frame_si : Cert.quiescent_SiluIdeal := fun m ρ _ =>
  (θ_run Cert.SiluIdeal.defs _ _).mono (fun r h => ⟨fun c => (h c).2, sem_eq_zero_of_no_sems (by decide) r.2⟩) (Cert.SiluIdeal.Value.run (F := Ideal) m ρ)

/-! ## The values -/

/-- Each device's result is its block of columns of the reference without the clip. -/
theorem value_silu : Cert.algebraic_KernelIdeal_SiluIdeal := by
  intro m ρ m' ρ' _ hagree
  refine ⟨whole (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)), (θ_run Cert.KernelIdeal.defs _ _).mono (fun r h c => ?_) (KernelProof.run_main (F := Ideal) m ρ),
    (θ_run Cert.SiluIdeal.defs _ _).mono (fun r h => ?_) (Cert.SiluIdeal.Value.run (F := Ideal) m' ρ')⟩
  · exact ⟨result_block m _ _ (fun e => (hagree e).1) (fun e => (hagree e).2) c r.2 (h.1 c), (h.1 c).1, (h.1 c).2.1⟩
  · exact ⟨(h 0).1.trans (silu_term _ _), (h 0).2⟩

/-- Where no entry of the product is clipped, each device's result is its block of columns of the reference. -/
theorem value_reference : Cert.algebraic_KernelIdeal_ReferenceIdeal_pre_small_KernelIdeal := by
  intro m ρ m' ρ' hpre hagree
  refine ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), (θ_run Cert.KernelIdeal.defs _ _).mono (fun r h c => ?_) (KernelProof.run_main (F := Ideal) m ρ),
    (θ_run Cert.ReferenceIdeal.defs _ _).mono (fun r h => ?_) (Cert.ReferenceIdeal.Value.run (F := Ideal) m' ρ')⟩
  · exact ⟨result_block m _ _ (fun e => (hagree e).1) (fun e => (hagree e).2) c r.2 (h.1 c), (h.1 c).1, (h.1 c).2.1⟩
  · refine ⟨(h 0).1.trans (reference_term _ _ (whole_bounds _ _ fun e => ?_)), (h 0).2⟩
    have he := hpre e
    rw [(hagree e).1, (hagree e).2] at he
    exact he

/-- The claims. -/
theorem claim : Cert.Claim :=
  ⟨Cert.Kernel.Gen.facts, Cert.KernelIdeal.Gen.facts, Cert.ReferenceIdeal.Gen.facts, Cert.SiluIdeal.Gen.facts, Cert.Pre_small_KernelIdeal.Gen.facts,
    Cert.Pre_small_ReferenceIdeal.Gen.facts, frame_p, frame_pi, frame_pi_small, frame_ri, frame_ri_small, frame_si, trivial, value_reference, value_silu⟩

end Cert.Proof

end
